-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x10240 : Shape := ⟨3, ![1, 4096, 10240]⟩
abbrev S5120x4608 : Shape := ⟨2, ![5120, 4608]⟩
abbrev S_ : Shape := ⟨0, ![]⟩
abbrev S4096x10240 : Shape := ⟨2, ![4096, 10240]⟩
abbrev S8x128 : Shape := ⟨2, ![8, 128]⟩
abbrev S256x10240 : Shape := ⟨2, ![256, 10240]⟩
abbrev S16x128 : Shape := ⟨2, ![16, 128]⟩
abbrev S1x1 : Shape := ⟨2, ![1, 1]⟩
abbrev S4096x4608 : Shape := ⟨2, ![4096, 4608]⟩
abbrev S4096x5120 : Shape := ⟨2, ![4096, 5120]⟩
abbrev S256x4608 : Shape := ⟨2, ![256, 4608]⟩
abbrev S256x5120 : Shape := ⟨2, ![256, 5120]⟩
abbrev S2 : Shape := ⟨1, ![2]⟩
abbrev S1x8x128 : Shape := ⟨3, ![1, 8, 128]⟩
abbrev S1 : Shape := ⟨1, ![1]⟩
abbrev S1x1x1 : Shape := ⟨3, ![1, 1, 1]⟩
abbrev S32x128 : Shape := ⟨2, ![32, 128]⟩

abbrev nBuf : Space → Nat
  | .hbm => 9
  | .vmem => 12
  | .smem => 3
  | _ => 0

abbrev bufTy : (tb : Table) → Fin (tcTables nBuf tb) → BufTy
  | .hbm, ⟨0, _⟩ => ⟨S1x4096x10240, .bf16⟩
  | .hbm, ⟨1, _⟩ => ⟨S5120x4608, .fp8e4m3⟩
  | .hbm, ⟨2, _⟩ => ⟨S_, .f32⟩
  | .hbm, ⟨3, _⟩ => ⟨S4096x10240, .bf16⟩
  | .hbm, ⟨4, _⟩ => ⟨S8x128, .f32⟩
  | .hbm, ⟨5, _⟩ => ⟨S1x1, .f32⟩
  | .hbm, ⟨6, _⟩ => ⟨S4096x4608, .bf16⟩
  | .hbm, ⟨7, _⟩ => ⟨S4096x5120, .fp8e4m3⟩
  | .hbm, ⟨8, _⟩ => ⟨S1x1, .f32⟩
  | .local _ .vmem, ⟨0, _⟩ => ⟨S256x10240, .bf16⟩
  | .local _ .vmem, ⟨1, _⟩ => ⟨S256x10240, .bf16⟩
  | .local _ .vmem, ⟨2, _⟩ => ⟨S8x128, .f32⟩
  | .local _ .vmem, ⟨3, _⟩ => ⟨S8x128, .f32⟩
  | .local _ .vmem, ⟨4, _⟩ => ⟨S256x10240, .bf16⟩
  | .local _ .vmem, ⟨5, _⟩ => ⟨S256x10240, .bf16⟩
  | .local _ .vmem, ⟨6, _⟩ => ⟨S5120x4608, .fp8e4m3⟩
  | .local _ .vmem, ⟨7, _⟩ => ⟨S256x4608, .bf16⟩
  | .local _ .vmem, ⟨8, _⟩ => ⟨S256x4608, .bf16⟩
  | .local _ .vmem, ⟨9, _⟩ => ⟨S256x5120, .fp8e4m3⟩
  | .local _ .vmem, ⟨10, _⟩ => ⟨S256x5120, .fp8e4m3⟩
  | .local _ .vmem, ⟨11, _⟩ => ⟨S256x5120, .fp8e4m3⟩
  | .local _ .smem, ⟨0, _⟩ => ⟨S1x1, .f32⟩
  | .local _ .smem, ⟨1, _⟩ => ⟨S1x1, .f32⟩
  | .local _ .smem, ⟨2, _⟩ => ⟨S2, .f32⟩
  | _, _ => ⟨S1x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_scratch0 : Ref sig .tc := ⟨.vmem, 11, rfl⟩
abbrev cc1_stg1_0 : Ref sig .tc := ⟨.smem, 0, rfl⟩
abbrev cc1_stg6_0 : Ref sig .tc := ⟨.smem, 1, rfl⟩
abbrev cc1_scratch1 : Ref sig .tc := ⟨.smem, 2, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  v4
def k0_off1 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v8 : Index := Scalar.indexCast v5
  let c0_5 : Index := 0#32
  ![v8.toNat, 0]
def k0_off2 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v11 : Index := Scalar.indexCast v5
  let c5120 : Index := 5120#32
  ![v11.toNat, 5120]
def k0_off3 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v31 : Index := Scalar.indexCast v5
  let c128 : Index := 128#32
  ![v31.toNat, 128]
def k0_off4 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v34 : Index := Scalar.indexCast v5
  let c5248 : Index := 5248#32
  ![v34.toNat, 5248]
def k0_off5 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v54 : Index := Scalar.indexCast v5
  let c256 : Index := 256#32
  ![v54.toNat, 256]
def k0_off6 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v57 : Index := Scalar.indexCast v5
  let c5376 : Index := 5376#32
  ![v57.toNat, 5376]
def k0_off7 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v77 : Index := Scalar.indexCast v5
  let c384 : Index := 384#32
  ![v77.toNat, 384]
def k0_off8 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v80 : Index := Scalar.indexCast v5
  let c5504 : Index := 5504#32
  ![v80.toNat, 5504]
def k0_off9 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v100 : Index := Scalar.indexCast v5
  let c512 : Index := 512#32
  ![v100.toNat, 512]
def k0_off10 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v103 : Index := Scalar.indexCast v5
  let c5632 : Index := 5632#32
  ![v103.toNat, 5632]
def k0_off11 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v123 : Index := Scalar.indexCast v5
  let c640 : Index := 640#32
  ![v123.toNat, 640]
def k0_off12 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v126 : Index := Scalar.indexCast v5
  let c5760 : Index := 5760#32
  ![v126.toNat, 5760]
def k0_off13 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v146 : Index := Scalar.indexCast v5
  let c768 : Index := 768#32
  ![v146.toNat, 768]
def k0_off14 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v149 : Index := Scalar.indexCast v5
  let c5888 : Index := 5888#32
  ![v149.toNat, 5888]
def k0_off15 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v169 : Index := Scalar.indexCast v5
  let c896 : Index := 896#32
  ![v169.toNat, 896]
def k0_off16 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v172 : Index := Scalar.indexCast v5
  let c6016 : Index := 6016#32
  ![v172.toNat, 6016]
def k0_off17 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v192 : Index := Scalar.indexCast v5
  let c1024 : Index := 1024#32
  ![v192.toNat, 1024]
def k0_off18 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v195 : Index := Scalar.indexCast v5
  let c6144 : Index := 6144#32
  ![v195.toNat, 6144]
def k0_off19 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v215 : Index := Scalar.indexCast v5
  let c1152 : Index := 1152#32
  ![v215.toNat, 1152]
def k0_off20 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v218 : Index := Scalar.indexCast v5
  let c6272 : Index := 6272#32
  ![v218.toNat, 6272]
def k0_off21 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v238 : Index := Scalar.indexCast v5
  let c1280 : Index := 1280#32
  ![v238.toNat, 1280]
def k0_off22 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v241 : Index := Scalar.indexCast v5
  let c6400 : Index := 6400#32
  ![v241.toNat, 6400]
def k0_off23 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v261 : Index := Scalar.indexCast v5
  let c1408 : Index := 1408#32
  ![v261.toNat, 1408]
def k0_off24 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v264 : Index := Scalar.indexCast v5
  let c6528 : Index := 6528#32
  ![v264.toNat, 6528]
def k0_off25 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v284 : Index := Scalar.indexCast v5
  let c1536 : Index := 1536#32
  ![v284.toNat, 1536]
def k0_off26 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v287 : Index := Scalar.indexCast v5
  let c6656 : Index := 6656#32
  ![v287.toNat, 6656]
def k0_off27 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v307 : Index := Scalar.indexCast v5
  let c1664 : Index := 1664#32
  ![v307.toNat, 1664]
def k0_off28 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v310 : Index := Scalar.indexCast v5
  let c6784 : Index := 6784#32
  ![v310.toNat, 6784]
def k0_off29 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v330 : Index := Scalar.indexCast v5
  let c1792 : Index := 1792#32
  ![v330.toNat, 1792]
def k0_off30 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v333 : Index := Scalar.indexCast v5
  let c6912 : Index := 6912#32
  ![v333.toNat, 6912]
def k0_off31 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v353 : Index := Scalar.indexCast v5
  let c1920 : Index := 1920#32
  ![v353.toNat, 1920]
def k0_off32 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v356 : Index := Scalar.indexCast v5
  let c7040 : Index := 7040#32
  ![v356.toNat, 7040]
def k0_off33 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v376 : Index := Scalar.indexCast v5
  let c2048 : Index := 2048#32
  ![v376.toNat, 2048]
def k0_off34 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v379 : Index := Scalar.indexCast v5
  let c7168 : Index := 7168#32
  ![v379.toNat, 7168]
def k0_off35 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v399 : Index := Scalar.indexCast v5
  let c2176 : Index := 2176#32
  ![v399.toNat, 2176]
def k0_off36 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v402 : Index := Scalar.indexCast v5
  let c7296 : Index := 7296#32
  ![v402.toNat, 7296]
def k0_off37 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v422 : Index := Scalar.indexCast v5
  let c2304 : Index := 2304#32
  ![v422.toNat, 2304]
def k0_off38 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v425 : Index := Scalar.indexCast v5
  let c7424 : Index := 7424#32
  ![v425.toNat, 7424]
def k0_off39 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v445 : Index := Scalar.indexCast v5
  let c2432 : Index := 2432#32
  ![v445.toNat, 2432]
def k0_off40 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v448 : Index := Scalar.indexCast v5
  let c7552 : Index := 7552#32
  ![v448.toNat, 7552]
def k0_off41 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v468 : Index := Scalar.indexCast v5
  let c2560 : Index := 2560#32
  ![v468.toNat, 2560]
def k0_off42 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v471 : Index := Scalar.indexCast v5
  let c7680 : Index := 7680#32
  ![v471.toNat, 7680]
def k0_off43 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v491 : Index := Scalar.indexCast v5
  let c2688 : Index := 2688#32
  ![v491.toNat, 2688]
def k0_off44 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v494 : Index := Scalar.indexCast v5
  let c7808 : Index := 7808#32
  ![v494.toNat, 7808]
def k0_off45 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v514 : Index := Scalar.indexCast v5
  let c2816 : Index := 2816#32
  ![v514.toNat, 2816]
def k0_off46 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v517 : Index := Scalar.indexCast v5
  let c7936 : Index := 7936#32
  ![v517.toNat, 7936]
def k0_off47 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v537 : Index := Scalar.indexCast v5
  let c2944 : Index := 2944#32
  ![v537.toNat, 2944]
def k0_off48 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v540 : Index := Scalar.indexCast v5
  let c8064 : Index := 8064#32
  ![v540.toNat, 8064]
def k0_off49 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v560 : Index := Scalar.indexCast v5
  let c3072 : Index := 3072#32
  ![v560.toNat, 3072]
def k0_off50 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v563 : Index := Scalar.indexCast v5
  let c8192 : Index := 8192#32
  ![v563.toNat, 8192]
def k0_off51 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v583 : Index := Scalar.indexCast v5
  let c3200 : Index := 3200#32
  ![v583.toNat, 3200]
def k0_off52 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v586 : Index := Scalar.indexCast v5
  let c8320 : Index := 8320#32
  ![v586.toNat, 8320]
def k0_off53 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v606 : Index := Scalar.indexCast v5
  let c3328 : Index := 3328#32
  ![v606.toNat, 3328]
def k0_off54 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v609 : Index := Scalar.indexCast v5
  let c8448 : Index := 8448#32
  ![v609.toNat, 8448]
def k0_off55 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v629 : Index := Scalar.indexCast v5
  let c3456 : Index := 3456#32
  ![v629.toNat, 3456]
def k0_off56 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v632 : Index := Scalar.indexCast v5
  let c8576 : Index := 8576#32
  ![v632.toNat, 8576]
def k0_off57 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v652 : Index := Scalar.indexCast v5
  let c3584 : Index := 3584#32
  ![v652.toNat, 3584]
def k0_off58 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v655 : Index := Scalar.indexCast v5
  let c8704 : Index := 8704#32
  ![v655.toNat, 8704]
def k0_off59 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v675 : Index := Scalar.indexCast v5
  let c3712 : Index := 3712#32
  ![v675.toNat, 3712]
def k0_off60 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v678 : Index := Scalar.indexCast v5
  let c8832 : Index := 8832#32
  ![v678.toNat, 8832]
def k0_off61 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v698 : Index := Scalar.indexCast v5
  let c3840 : Index := 3840#32
  ![v698.toNat, 3840]
def k0_off62 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v701 : Index := Scalar.indexCast v5
  let c8960 : Index := 8960#32
  ![v701.toNat, 8960]
def k0_off63 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v721 : Index := Scalar.indexCast v5
  let c3968 : Index := 3968#32
  ![v721.toNat, 3968]
def k0_off64 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v724 : Index := Scalar.indexCast v5
  let c9088 : Index := 9088#32
  ![v724.toNat, 9088]
def k0_off65 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v744 : Index := Scalar.indexCast v5
  let c4096 : Index := 4096#32
  ![v744.toNat, 4096]
def k0_off66 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v747 : Index := Scalar.indexCast v5
  let c9216 : Index := 9216#32
  ![v747.toNat, 9216]
def k0_off67 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v767 : Index := Scalar.indexCast v5
  let c4224 : Index := 4224#32
  ![v767.toNat, 4224]
def k0_off68 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v770 : Index := Scalar.indexCast v5
  let c9344 : Index := 9344#32
  ![v770.toNat, 9344]
def k0_off69 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v790 : Index := Scalar.indexCast v5
  let c4352 : Index := 4352#32
  ![v790.toNat, 4352]
def k0_off70 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v793 : Index := Scalar.indexCast v5
  let c9472 : Index := 9472#32
  ![v793.toNat, 9472]
def k0_off71 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v813 : Index := Scalar.indexCast v5
  let c4480 : Index := 4480#32
  ![v813.toNat, 4480]
def k0_off72 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v816 : Index := Scalar.indexCast v5
  let c9600 : Index := 9600#32
  ![v816.toNat, 9600]
def k0_off73 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v836 : Index := Scalar.indexCast v5
  let c4608 : Index := 4608#32
  ![v836.toNat, 4608]
def k0_off74 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v839 : Index := Scalar.indexCast v5
  let c9728 : Index := 9728#32
  ![v839.toNat, 9728]
def k0_off75 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v859 : Index := Scalar.indexCast v5
  let c4736 : Index := 4736#32
  ![v859.toNat, 4736]
def k0_off76 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v862 : Index := Scalar.indexCast v5
  let c9856 : Index := 9856#32
  ![v862.toNat, 9856]
def k0_off77 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v882 : Index := Scalar.indexCast v5
  let c4864 : Index := 4864#32
  ![v882.toNat, 4864]
def k0_off78 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v885 : Index := Scalar.indexCast v5
  let c9984 : Index := 9984#32
  ![v885.toNat, 9984]
def k0_off79 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v905 : Index := Scalar.indexCast v5
  let c4992 : Index := 4992#32
  ![v905.toNat, 4992]
def k0_off80 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_3 : BitVec 32 := 16#32
  let v4 : BitVec 32 := Scalar.muli arg3 c16_i32_3
  let v5 : BitVec 32 := v4
  let v908 : Index := Scalar.indexCast v5
  let c10112 : Index := 10112#32
  ![v908.toNat, 10112]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![17], ![false]⟩

def k1_cond3 (i : grid1.Coords) : BitVec 1 :=
  let arg0 : BitVec 32 := BitVec.ofNat 32 (i 0).val
  let c0_i32_3 : BitVec 32 := 0#32
  let v6 : BitVec 1 := Scalar.cmpi .sgt arg0 c0_i32_3
  let c16_i32 : BitVec 32 := 16#32
  let v7 : BitVec 1 := Scalar.cmpi .slt arg0 c16_i32
  let v8 : BitVec 1 := Scalar.andi v6 v7
  let v9 : BitVec 32 := Scalar.extui v8
  let c0_i32_4 : BitVec 32 := 0#32
  let v10 : BitVec 1 := Scalar.cmpi .ne v9 c0_i32_4
  v10

def k1_cond4 (i : grid1.Coords) : BitVec 1 :=
  let arg0 : BitVec 32 := BitVec.ofNat 32 (i 0).val
  let c16_i32_5 : BitVec 32 := 16#32
  let v11 : BitVec 1 := Scalar.cmpi .eq arg0 c16_i32_5
  let v12 : BitVec 32 := Scalar.extui v11
  let c0_i32_6 : BitVec 32 := 0#32
  let v13 : BitVec 1 := Scalar.cmpi .ne v12 c0_i32_6
  v13

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_5 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x10240 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S5120x4608 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4608 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x5120 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S1x4096x10240 : Shape := ⟨3, ![1, 4096, 10240]⟩
abbrev S5120x4608 : Shape := ⟨2, ![5120, 4608]⟩
abbrev S_ : Shape := ⟨0, ![]⟩
abbrev S4096x10240 : Shape := ⟨2, ![4096, 10240]⟩
abbrev S1x1 : Shape := ⟨2, ![1, 1]⟩
abbrev S4096x4608 : Shape := ⟨2, ![4096, 4608]⟩
abbrev S4096x5120 : Shape := ⟨2, ![4096, 5120]⟩
abbrev S1x4096x5120 : Shape := ⟨3, ![1, 4096, 5120]⟩
abbrev S1 : Shape := ⟨1, ![1]⟩
abbrev S1x1x1 : Shape := ⟨3, ![1, 1, 1]⟩
abbrev S1x246 : Shape := ⟨2, ![1, 246]⟩
abbrev S1x1x246 : Shape := ⟨3, ![1, 1, 246]⟩

abbrev nBuf : Space → Nat
  | .hbm => 8
  | .vmem => 4
  | .smem => 2
  | _ => 0

abbrev bufTy : (tb : Table) → Fin (tcTables nBuf tb) → BufTy
  | .hbm, ⟨0, _⟩ => ⟨S1x4096x10240, .bf16⟩
  | .hbm, ⟨1, _⟩ => ⟨S5120x4608, .fp8e4m3⟩
  | .hbm, ⟨2, _⟩ => ⟨S_, .f32⟩
  | .hbm, ⟨3, _⟩ => ⟨S4096x10240, .bf16⟩
  | .hbm, ⟨4, _⟩ => ⟨S1x1, .f32⟩
  | .hbm, ⟨5, _⟩ => ⟨S4096x4608, .bf16⟩
  | .hbm, ⟨6, _⟩ => ⟨S4096x5120, .fp8e4m3⟩
  | .hbm, ⟨7, _⟩ => ⟨S1x1, .f32⟩
  | .local _ .vmem, ⟨0, _⟩ => ⟨S4096x10240, .bf16⟩
  | .local _ .vmem, ⟨1, _⟩ => ⟨S5120x4608, .fp8e4m3⟩
  | .local _ .vmem, ⟨2, _⟩ => ⟨S4096x4608, .bf16⟩
  | .local _ .vmem, ⟨3, _⟩ => ⟨S4096x5120, .fp8e4m3⟩
  | .local _ .smem, ⟨0, _⟩ => ⟨S1x1, .f32⟩
  | .local _ .smem, ⟨1, _⟩ => ⟨S1x1, .f32⟩
  | _, _ => ⟨S1x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Amax.lean ====
/- The running maxima that the first call keeps: what one trip of its loop leaves in the accumulator. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.Pipeline.ReadBack
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

theorem k0_trip_lt (k : Fin k0_t1_loop.trips) : k.val < 16 := Nat.lt_of_lt_of_le k.isLt k0_t1_abs.2.1

/-- One step of a trip: the running maxima against the sizes of 16 rows of products, eight rows at a time. -/
def chunkV (v : FVec F S8x128 .f32) (g u : Vec F S16x128 .bf16) : FVec F S8x128 .f32 :=
  maximumf (maximumf v (absf (extractStridedSlice S8x128 ![0, 0] (k0_pay4 g u) slices_S16x128_o0_0_S8x128)))
    (absf (extractStridedSlice S8x128 ![8, 0] (k0_pay4 g u) slices_S16x128_o8_0_S8x128))

/-- The 16 rows of trip `k` of a tile, columns `128 n` to `128 n + 127`. -/
def blockAt (x : Vec F S256x10240 .bf16) (k : Fin k0_t1_loop.trips) (n : ℕ) : Vec F S16x128 .bf16 := fun y =>
  x (ix2 ⟨16 * k.val + (y 0).val, by have := k0_trip_lt k; have : (y 0).val < 16 := (y 0).isLt; show _ < 256; omega⟩
    ⟨(128 * n + (y 1).val) % 10240, Nat.mod_lt _ (by decide)⟩)

/-- The running maxima after `n` steps of trip `k`, from `v`. -/
def foldV (x : Vec F S256x10240 .bf16) (k : Fin k0_t1_loop.trips) (v : FVec F S8x128 .f32) : ℕ → FVec F S8x128 .f32
  | 0 => v
  | n + 1 => chunkV (foldV x k v n) (blockAt x k n) (blockAt x k (n + 40))

/-- The running maxima after `n` trips, from `v`. -/
def tripsV (x : Vec F S256x10240 .bf16) (v : FVec F S8x128 .f32) : ℕ → FVec F S8x128 .f32
  | 0 => v
  | n + 1 => if h : n < k0_t1_loop.trips then foldV x ⟨n, h⟩ (tripsV x v n) 40 else tripsV x v n

/-- The first row of trip `k`. -/
theorem k0_row (k : Fin k0_t1_loop.trips) : k0_off1 k 0 = 16 * k.val :=
  congrFun (k0_off1_eq k) 0

/-- The load of 16 rows at column `128 n`. -/
theorem block_load (arg1 : Memref sig .tc .vmem S256x10240 .bf16) (harg1 : arg1.IsWhole) (x : Vec F S256x10240 .bf16) (k : Fin k0_t1_loop.trips) (n : ℕ) (hn : n < 80)
    (h : ∀ a, (![k0_off1 k 0, 128 * n] : Fin 2 → ℕ) a + S16x128.size a ≤ S256x10240.size a) :
    View.readAt (Elt F) arg1.view (Rect.unit (s := S256x10240) ![k0_off1 k 0, 128 * n] S16x128.size h).toLoadRect (harg1.unread x) = blockAt x k n := by
  rw [View.readAt_eq_ld, harg1.read_unread]
  funext y
  unfold View.ld blockAt
  have hy : (y 1).val < 128 := (y 1).isLt
  congr 1; funext a; fin_cases a
  · refine Fin.ext ?_; show k0_off1 k 0 + 1 * (y 0).val = 16 * k.val + (y 0).val; have := k0_row k; omega
  · refine Fin.ext ?_; show 128 * n + 1 * (y 1).val = (128 * n + (y 1).val) % 10240; omega

theorem block_inb (k : Fin k0_t1_loop.trips) (n : ℕ) (hn : n < 80) (a : Fin 2) : (![k0_off1 k 0, 128 * n] : Fin 2 → ℕ) a + S16x128.size a ≤ S256x10240.size a := by
  have := k0_trip_lt k
  fin_cases a
  · show k0_off1 k 0 + 16 ≤ 256; rw [k0_row]; omega
  · show 128 * n + 128 ≤ 10240; omega

/-- One more step, computed from the two loads. -/
theorem fold_step (arg1 : Memref sig .tc .vmem S256x10240 .bf16) (harg1 : arg1.IsWhole) (x : Vec F S256x10240 .bf16) (k : Fin k0_t1_loop.trips) (v0 : FVec F S8x128 .f32) (n : ℕ) (hn : n < 40)
    {v w : FVec F S8x128 .f32}
    (hw : w = chunkV v (View.readAt (Elt F) arg1.view (Rect.unit (s := S256x10240) ![k0_off1 k 0, 128 * n] S16x128.size (block_inb k n (by omega))).toLoadRect (harg1.unread x))
      (View.readAt (Elt F) arg1.view (Rect.unit (s := S256x10240) ![k0_off1 k 0, 128 * (n + 40)] S16x128.size (block_inb k (n + 40) (by omega))).toLoadRect (harg1.unread x)))
    (hv : v = foldV x k v0 n) : w = foldV x k v0 (n + 1) := by
  rw [hw, hv, block_load arg1 harg1 x k n (by omega), block_load arg1 harg1 x k (n + 40) (by omega)]; rfl

set_option maxHeartbeats 2000000 in
/-- A trip leaves the running maxima of its 40 steps. -/
theorem trip_read (𝒱 : Variants) (c : Dev nD) (bd : Option 𝒱.V) (i : grid0.Coords) (arg1 : Memref sig .tc .vmem S256x10240 .bf16) (harg1 : arg1.IsWhole) (arg2 : Memref sig .tc .vmem S8x128 .f32) (harg2 : arg2.IsWhole)
    (x : Vec F S256x10240 .bf16) (k : Fin k0_t1_loop.trips) (f : BufTy.Contents (Elt F) arg2.view.ty) :
    View.read (Elt F) arg2.view (arg2.view.writes (Elt F) f (tripL_k0_t1 𝒱 c bd i arg1 harg1 arg2 harg2 (harg1.unread x) k f)) = foldV x k (View.read (Elt F) arg2.view f) 40 := by
  unfold tripL_k0_t1 trip_k0_t1
  refine (View.read_writes_full _ _ _ _ _).trans ?_
  iterate 40 refine fold_step arg1 harg1 x k _ _ (by decide) rfl ?_
  show shapeCast S8x128 _ _ = _
  rw [shapeCast_self, View.readAt_full]
  rfl

/-- After `n` trips the accumulator holds the running maxima of them. -/
theorem trips_read (𝒱 : Variants) (c : Dev nD) (bd : Option 𝒱.V) (i : grid0.Coords) (arg1 : Memref sig .tc .vmem S256x10240 .bf16) (harg1 : arg1.IsWhole) (arg2 : Memref sig .tc .vmem S8x128 .f32) (harg2 : arg2.IsWhole)
    (x : Vec F S256x10240 .bf16) (G : BufTy.Contents (Elt F) arg2.view.ty) (n : ℕ) (hn : n ≤ k0_t1_loop.trips) :
    View.read (Elt F) arg2.view (arg2.view.writes (Elt F) G (pb_k0_t1 𝒱 c bd i arg1 harg1 arg2 harg2 (harg1.unread x) G n)) = tripsV x (View.read (Elt F) arg2.view G) n := by
  induction n with
  | zero => rfl
  | succ n ih =>
    have h : n < k0_t1_loop.trips := hn
    rw [pb_k0_t1_succ 𝒱 c bd i arg1 harg1 arg2 harg2 (harg1.unread x) G ⟨n, h⟩, View.writes_append, trip_read, ih (Nat.le_of_lt h)]
    exact (show tripsV x (View.read (Elt F) arg2.view G) (n + 1) = _ from dif_pos h).symm

end Cert.Kernel.Gen

end
-- ==== Proof.Kernel.R0.lean ====
/- The first call at every grid point: what its accumulator holds after each, and the obligation of its body. -/
module

public import proofs.«01_k».proof.Proof.Kernel.Amax

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the buffer contents when the region is entered
variable (V : (c : Dev nD) → (b : Ref sig .tc) → Buf (Elt F) ((c : Thread nD τ).loc b))
/-! # REGION 0 of @main: custom_call 0, `cc0_swiglu_amax` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs -/

/-- Each window's current staging memref at point `t`, spelled as the pipeline passes it (`bodyAt0`), and its wholeness. -/
abbrev ms0_0 (t : Fin cfg0.N) : Memref sig .tc .vmem S256x10240 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)

set_option maxHeartbeats 1000000 in
/-- The body at the first point: the running maxima start at zero. -/
theorem run0_A (c : Dev nD) (i : grid0.Coords) (arg1 : Memref sig .tc .vmem S256x10240 .bf16) (harg1 : arg1.IsWhole) (arg2 : Memref sig .tc .vmem S8x128 .f32) (harg2 : arg2.IsWhole) (hc0 : cond0_0 i)
    (x0 : Vec F S256x10240 .bf16) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (tripsV x0 k0_pay1 k0_t1_loop.trips)) -∗ K ⟨⟩))
      ⊢ wp frame (wpE (defs₀ (F := F)) Variants.none c none) E (cc0_swiglu_amax i arg1 harg1 arg2 harg2) K := by
  simp only [cc0_swiglu_amax_eq_skeleton]; unfold cc0_swiglu_amax_skel
  unfold owns
  iintro ⟨⟨%f0, %hf0, H0⟩, ⟨%d1, %f1, -, H1⟩, Hk⟩
  obtain rfl := harg1.eq_unread hf0
  sl_exec (disch := first | sl_exact hc0)
  sl_step
  iapply Hk
  isplitl [H0]
  · iexists _; isplitr; · ipureintro; exact harg1.read_unread _
    iexact H0
  iexists _; isplitr
  swap; · iexact H1
  ipureintro
  rw [View.writes_append, trips_read _ c _ i arg1 harg1 arg2 harg2 x0 _ _ le_rfl]
  exact congrArg (fun v => tripsV x0 v k0_t1_loop.trips) (View.read_writes_full _ _ _ _ _)

set_option maxHeartbeats 1000000 in
/-- The body at a later point: they go on from what the point before left. -/
theorem run0_B (c : Dev nD) (i : grid0.Coords) (arg1 : Memref sig .tc .vmem S256x10240 .bf16) (harg1 : arg1.IsWhole) (arg2 : Memref sig .tc .vmem S8x128 .f32) (harg2 : arg2.IsWhole) (hc0 : ¬cond0_0 i)
    (x0 : Vec F S256x10240 .bf16) (x1 : Vec F S8x128 .f32) (E : Set ℕ) (K : PUnit → sProp 𝕄) :
    iprop(owns (c : Thread nD τ) arg1 fullShare x0 ∗ owns (c : Thread nD τ) arg2 fullShare x1
        ∗ (iprop(owns (c : Thread nD τ) arg1 fullShare x0 ∗ owns (c : Thread nD τ) arg2 fullShare (tripsV x0 x1 k0_t1_loop.trips)) -∗ K ⟨⟩))
      ⊢ wp frame (wpE (defs₀ (F := F)) Variants.none c none) E (cc0_swiglu_amax i arg1 harg1 arg2 harg2) K := by
  simp only [cc0_swiglu_amax_eq_skeleton]; unfold cc0_swiglu_amax_skel
  unfold owns
  iintro ⟨⟨%f0, %hf0, H0⟩, ⟨%f1, %hf1, H1⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  iexists _; isplitr
  swap; · iexact H1
  ipureintro
  rw [trips_read _ c _ i arg1 harg1 arg2 harg2 x0 _ _ le_rfl, harg2.read_unread]

/-! ## What the accumulator holds after each point -/

/-- The running maxima after the body at position `n`. -/
def accV (c : Dev nD) : (n : ℕ) → n < cfg0.N → Vec F S8x128 .f32
  | 0, hn => tripsV (iblk0 V c 0 ⟨0, hn⟩) k0_pay1 k0_t1_loop.trips
  | n + 1, hn => tripsV (iblk0 V c 0 ⟨n + 1, hn⟩) (accV c n (Nat.lt_of_succ_lt hn)) k0_t1_loop.trips

theorem accV_first (c : Dev nD) (t : Fin cfg0.N) (h : t.val = 0) : accV V c t.val t.isLt = tripsV (iblk0 V c 0 t) k0_pay1 k0_t1_loop.trips := by
  obtain ⟨n, hn⟩ := t
  cases n with
  | zero => rfl
  | succ n => exact absurd h (Nat.succ_ne_zero n)

theorem accV_later (c : Dev nD) (t : Fin cfg0.N) (h : t.val ≠ 0) :
    accV V c t.val t.isLt = tripsV (iblk0 V c 0 t) (accV V c (t.val - 1) (Nat.lt_of_le_of_lt (Nat.sub_le _ _) t.isLt)) k0_t1_loop.trips := by
  obtain ⟨n, hn⟩ := t
  cases n with
  | zero => exact absurd rfl h
  | succ n => rfl

/-! ## The pipeline's proof data -/

/-- The arrays as the region finds them, each window's buffer after the body at each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accV V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = accV V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
/-- A later point finds in the accumulator what the point before left. -/
theorem before0_1_B (c : Dev nD) (t : Fin cfg0.N) (h0 : t.val ≠ 0) (d) :
    (dat0 V c).before 1 t d = accV V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the first, or a later one. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val = 0
  · rw [accV_first V c t h0]
    iintro ⟨HΦ, Ho, ⟨%d0, H0⟩, ⟨%d1, H1⟩⟩
    iapply (run0_A c (grid0.coords t) _ _ _ _ ((hcond0_0 t).mpr (by omega)) (iblk0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [accV_later V c t h0]
    simp only [before0_1_B V c t h0]
    iintro ⟨HΦ, Ho, ⟨%d0, H0⟩, ⟨%d1, H1⟩⟩
    iapply (run0_B c (grid0.coords t) _ _ _ _ (fun h => by have := (hcond0_0 t).mp h; omega) (iblk0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.Kernel.Gen

end
-- ==== Proof.Kernel.R1Base.lean ====
/- What the second pallas_call of the program (the quantised product) is run over: its windows' blocks, the
   conditions of its branches in closed form over the grid's points, the points at which an output is left alone or
   written back, and its staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 17 = 0 :=
  (fun t => by
    have ht : t.val < 17 := Nat.lt_of_lt_of_eq t.isLt N_1
    have e0 : (grid1.coords t 0).val = t.val / 1 % 17 := Pipeline.Grid.coords_val t 0 (by decide) rfl
    simp only [cond1_0, k1_cond1, e0]
    word_cmp
   : ∀ t : Fin grid1.N, cond1_0 (grid1.coords t) ↔ t.val % 17 = 0)

/-- The condition of the body's `scf.if` 1 (`k1_h2`), from the grid coordinates (the skeleton's scalar
    chain substituted). -/
abbrev cond1_1 (i : grid1.Coords) : Prop := k1_cond2 i = 1#1
/-- It holds at the first point only — by arithmetic of the point. -/
theorem hcond1_1 : ∀ t : Fin cfg1.N, cond1_1 (grid1.coords t) ↔ t.val % 17 = 0 :=
  (fun t => by
    have ht : t.val < 17 := Nat.lt_of_lt_of_eq t.isLt N_1
    have e0 : (grid1.coords t 0).val = t.val / 1 % 17 := Pipeline.Grid.coords_val t 0 (by decide) rfl
    simp only [cond1_1, k1_cond2, e0]
    word_cmp
   : ∀ t : Fin grid1.N, cond1_1 (grid1.coords t) ↔ t.val % 17 = 0)

/-- The condition of the body's `scf.if` 2 (`k1_h3`), from the grid coordinates (the skeleton's scalar
    chain substituted). -/
abbrev cond1_2 (i : grid1.Coords) : Prop := k1_cond3 i = 1#1
/-- It holds at the points whose coordinates have 1 ≤ i0 and i0 ≤ 15 — decided over the grid. -/
theorem hcond1_2 : ∀ t : Fin cfg1.N, cond1_2 (grid1.coords t) ↔ (1 ≤ t.val % 17 ∧ t.val % 17 ≤ 15) :=
  (by decide +kernel : ∀ t : Fin grid1.N, cond1_2 (grid1.coords t) ↔ (1 ≤ t.val % 17 ∧ t.val % 17 ≤ 15))

/-- The condition of the body's `scf.if` 3 (`k1_h4`), from the grid coordinates (the skeleton's scalar
    chain substituted). -/
abbrev cond1_3 (i : grid1.Coords) : Prop := k1_cond4 i = 1#1
/-- It holds at the last point only — by arithmetic of the point. -/
theorem hcond1_3 : ∀ t : Fin cfg1.N, cond1_3 (grid1.coords t) ↔ t.val % 17 = 16 :=
  (fun t => by
    have ht : t.val < 17 := Nat.lt_of_lt_of_eq t.isLt N_1
    have e0 : (grid1.coords t 0).val = t.val / 1 % 17 := Pipeline.Grid.coords_val t 0 (by decide) rfl
    simp only [cond1_3, k1_cond4, e0]
    word_cmp
   : ∀ t : Fin grid1.N, cond1_3 (grid1.coords t) ↔ t.val % 17 = 16)

/-- The condition of the body's `scf.if` 4 (`k1_h5`), from the grid coordinates (the skeleton's scalar
    chain substituted). -/
abbrev cond1_4 (i : grid1.Coords) : Prop := (Scalar.cmpi .ne (Scalar.extui (Scalar.cmpi .slt (BitVec.ofNat 32 (i 0).val) 16#32)) 0#32) = 1#1
/-- It holds at the points before point 16 — decided over the grid. -/
theorem hcond1_4 : ∀ t : Fin cfg1.N, cond1_4 (grid1.coords t) ↔ t.val < 16 :=
  (by decide +kernel : ∀ t : Fin grid1.N, cond1_4 (grid1.coords t) ↔ t.val < 16)

/-! ## Where the outputs are left alone, and where they are written back -/

theorem idle1_4_iff : ∀ t : Fin cfg1.N, cfg1.idle 4 (grid1.coords t) = decide (t.val = 0) :=
  (by decide +kernel : ∀ t : Fin grid1.N, cfg1.idle 4 (grid1.coords t) = decide (t.val = 0))
theorem idle1_5_iff : ∀ t : Fin cfg1.N, cfg1.idle 5 (grid1.coords t) = decide (t.val = 16) :=
  (by decide +kernel : ∀ t : Fin grid1.N, cfg1.idle 5 (grid1.coords t) = decide (t.val = 16))
theorem idle1_6_iff : ∀ t : Fin cfg1.N, cfg1.idle 6 (grid1.coords t) = decide (t.val ≠ 0) :=
  (by decide +kernel : ∀ t : Fin grid1.N, cfg1.idle 6 (grid1.coords t) = decide (t.val ≠ 0))
theorem flush1_4_iff : ∀ t : Fin cfg1.N, (cfg1.win 4).flush t = decide (t.val ≠ 0) :=
  (by decide +kernel : ∀ t : Fin cfg1.N, (cfg1.win 4).flush t = decide (t.val ≠ 0))
theorem flush1_5_iff : ∀ t : Fin cfg1.N, (cfg1.win 5).flush t = decide (t.val ≠ 15) :=
  (by decide +kernel : ∀ t : Fin cfg1.N, (cfg1.win 5).flush t = decide (t.val ≠ 15))
theorem flush1_6_iff : ∀ t : Fin cfg1.N, (cfg1.win 6).flush t = decide (t.val = 16) :=
  (by decide +kernel : ∀ t : Fin cfg1.N, (cfg1.win 6).flush t = decide (t.val = 16))

/-! ## The staging and scratch memrefs -/

/-- Each window's current staging memref at point `t`, spelled as the pipeline passes it (`bodyAt0`), and its wholeness. -/
abbrev ms1_0 (t : Fin cfg1.N) : Memref sig .tc .vmem S8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x10240 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5120x4608 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x4608 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x5120 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .smem S1x1 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S256x5120 .fp8e4m3 := Memref.whole cc1_scratch0
abbrev scM1_1 : Memref sig .tc .smem S2 .f32 := Memref.whole cc1_scratch1
/-- What the region holds besides its windows and its own scratch: the first call's staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f))

/-- The region's invariant before its first point, with its scratch as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Gen

end
-- ==== Proof.Kernel.QTile.lean ====
/- The codes of one tile of the second call, number by number, and the pieces in which its body stores them. -/
module

public import proofs.«01_k».proof.Proof.Kernel.R1Base
public import Idealize.ShloMosaic.Lib.Pointwise
public import Idealize.ShloMosaic.Lib.VecWindow
public import Idealize.ShloMosaic.Lib.Pipeline.ReadBack
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One code: the gated product of one pair of numbers, scaled by `inv`, clipped and cast, as the body computes it. -/
def qElt (inv : F .f32) (g u : Elt F .bf16) : Elt F .fp8e4m3 := k1_pay5 inv (fun _ => g) (fun _ => u) (ix2 0 0)

/-- The codes of a whole tile: a row's gate half and its up half, pair by pair. -/
def qTile (inv : F .f32) (x : Vec F S256x10240 .bf16) : Vec F S256x5120 .fp8e4m3 := fun j =>
  qElt inv (x (ix2 (j 0) ⟨(j 1).val, lt_of_lt_of_le (j 1).isLt (by decide)⟩)) (x (ix2 (j 0) ⟨(j 1).val + 5120, Nat.add_lt_add_right (j 1).isLt 5120⟩))

/-- A stored piece of codes is computed number by number. -/
theorem k1_pay5_apply (inv : F .f32) (v w : Vec F S32x128 .bf16) (y : S32x128.Idx) : k1_pay5 inv v w y = qElt inv (v y) (w y) := by
  unfold qElt k1_pay5
  rw [shapeCast_self, shapeCast_self, shapeCast_self, shapeCast_self]
  rfl

/-- The piece stored at row `r`, column `c`, from the pieces of the tile loaded at columns `c` and `c + 5120`, is that block of the tile's codes. -/
theorem piece_eq (inv : F .f32) (arg3 : Memref sig .tc .vmem S256x10240 .bf16) (harg3 : arg3.IsWhole) (x : Vec F S256x10240 .bf16) (r c : ℕ)
    (h1 : ∀ a, (![r, c] : Fin 2 → ℕ) a + S32x128.size a ≤ S256x10240.size a) (h2 : ∀ a, (![r, c + 5120] : Fin 2 → ℕ) a + S32x128.size a ≤ S256x10240.size a)
    (h3 : ∀ a, (![r, c] : Fin 2 → ℕ) a + S32x128.size a ≤ S256x5120.size a) (y : S32x128.Idx) :
    k1_pay5 inv (View.readAt (Elt F) arg3.view (Rect.unit (s := S256x10240) ![r, c] S32x128.size h1).toLoadRect (harg3.unread x))
        (View.readAt (Elt F) arg3.view (Rect.unit (s := S256x10240) ![r, c + 5120] S32x128.size h2).toLoadRect (harg3.unread x)) y
      = qTile inv x ((Rect.unit (s := S256x5120) ![r, c] S32x128.size h3).emb y) := by
  rw [k1_pay5_apply, View.readAt_eq_ld, View.readAt_eq_ld, harg3.read_unread]
  unfold qTile View.ld
  congr 1
  · congr 1; funext a; fin_cases a <;> rfl
  · congr 1; funext a; fin_cases a
    · rfl
    · refine Fin.ext ?_; show c + 5120 + 1 * (y 1).val = c + 1 * (y 1).val + 5120; omega

theorem inb_gate {r c : ℕ} (h3 : ∀ a, (![r, c] : Fin 2 → ℕ) a + S32x128.size a ≤ S256x5120.size a) (a : Fin 2) : (![r, c] : Fin 2 → ℕ) a + S32x128.size a ≤ S256x10240.size a := by
  have := h3 a; fin_cases a
  · exact this
  · exact this.trans (by decide)

theorem inb_up {r c : ℕ} (h3 : ∀ a, (![r, c] : Fin 2 → ℕ) a + S32x128.size a ≤ S256x5120.size a) (a : Fin 2) : (![r, c + 5120] : Fin 2 → ℕ) a + S32x128.size a ≤ S256x10240.size a := by
  have := h3 a; fin_cases a
  · exact this
  · have h : c + 128 ≤ 5120 := this
    show c + 5120 + 128 ≤ 10240; omega

/-- One more stored piece, computed from the tile's pieces beside it: the list with it is still made of blocks of the tile's codes. -/
theorem pieces_step (inv : F .f32) (arg3 : Memref sig .tc .vmem S256x10240 .bf16) (harg3 : arg3.IsWhole) (x : Vec F S256x10240 .bf16) (r c : ℕ)
    (h3 : ∀ a, (![r, c] : Fin 2 → ℕ) a + S32x128.size a ≤ S256x5120.size a) {w : S32x128.Idx → Elt F .fp8e4m3} {L : List (View.Piece (Elt F) S256x5120 .fp8e4m3)}
    (hw : w = k1_pay5 inv (View.readAt (Elt F) arg3.view (Rect.unit (s := S256x10240) ![r, c] S32x128.size (inb_gate h3)).toLoadRect (harg3.unread x))
      (View.readAt (Elt F) arg3.view (Rect.unit (s := S256x10240) ![r, c + 5120] S32x128.size (inb_up h3)).toLoadRect (harg3.unread x)))
    (hL : View.PiecesOf (qTile inv x) L) : View.PiecesOf (qTile inv x) (⟨Rect.unit (s := S256x5120) ![r, c] S32x128.size h3, w⟩ :: L) :=
  ⟨fun y => by rw [hw]; exact piece_eq inv arg3 harg3 x r c _ _ h3 y, hL⟩

/-- A load of the whole of a memref reads its contents. -/
theorem readAt_whole2 {sp : Space} {e : EltTy} {n m : ℕ} (a : Memref sig .tc sp ⟨2, ![n, m]⟩ e) (ha : a.IsWhole) (X : (⟨2, ![n, m]⟩ : Shape).Idx → Elt F e)
    (h : ∀ i, (![0, 0] : Fin 2 → ℕ) i + (⟨2, ![n, m]⟩ : Shape).size i ≤ (⟨2, ![n, m]⟩ : Shape).size i) :
    View.readAt (Elt F) a.view (Rect.unit (s := ⟨2, ![n, m]⟩) ![0, 0] (⟨2, ![n, m]⟩ : Shape).size h).toLoadRect (ha.unread X) = X := by
  rw [View.readAt_eq_ld, ha.read_unread]
  exact View.ld_unit_zero (by funext i; fin_cases i <;> rfl) h X

/-- A word of the pair kept in scalar memory. -/
theorem word_at (arg9 : Memref sig .tc .smem S2 .f32) (harg9 : arg9.IsWhole) (xs1 : Vec F S2 .f32) (k : Fin 2) (h : ∀ a, (![k.val] : Fin 1 → ℕ) a + S1.size a ≤ S2.size a)
    (j : (Rect.unit (s := S2) ![k.val] S1.size h).shape.Idx) :
    View.readAt (Elt F) arg9.view (Rect.unit (s := S2) ![k.val] S1.size h).toLoadRect (harg9.unread xs1) j = xs1 (ix1 k) := by
  rw [View.readAt_eq_ld, harg9.read_unread]
  unfold View.ld
  congr 1; funext a; fin_cases a
  refine Fin.ext ?_
  have : (j 0).val < 1 := (j 0).isLt
  show k.val + 1 * (j 0).val = k.val; omega

/-- The one word of a [1, 1] operand in scalar memory. -/
theorem word_at2 (arg2 : Memref sig .tc .smem S1x1 .f32) (harg2 : arg2.IsWhole) (x1 : Vec F S1x1 .f32) (h : ∀ a, (![0, 0] : Fin 2 → ℕ) a + S1x1.size a ≤ S1x1.size a)
    (j : (Rect.unit (s := S1x1) ![0, 0] S1x1.size h).shape.Idx) :
    View.readAt (Elt F) arg2.view (Rect.unit (s := S1x1) ![0, 0] S1x1.size h).toLoadRect (harg2.unread x1) j = x1 (ix2 0 0) := by
  rw [View.readAt_eq_ld, harg2.read_unread]
  unfold View.ld
  congr 1; funext a
  have h0 : (j 0).val < 1 := (j 0).isLt
  have h1 : (j 1).val < 1 := (j 1).isLt
  fin_cases a
  · refine Fin.ext ?_; show 0 + 1 * (j 0).val = 0; omega
  · refine Fin.ext ?_; show 0 + 1 * (j 1).val = 0; omega

/-! ## The three words of the first point -/

/-- One step of the search for the exponent field: the bit `b` is kept if `a` is at least the power of two with the field `f + b`. -/
def fieldStep (a : F .f32) (b f : BitVec 32) : BitVec 32 :=
  Scalar.select (Scalar.cmpf .oge a (Scalar.ofBits .f32 (Scalar.shli (Scalar.addi f b) 23#32))) (Scalar.addi f b) f

/-- The search's first six steps. -/
def field6 (a : F .f32) : BitVec 32 :=
  fieldStep a 4#32 (fieldStep a 8#32 (fieldStep a 16#32 (fieldStep a 32#32 (fieldStep a 64#32 (fieldStep a 128#32 0#32)))))

/-- The scale stored, from the largest product over 448. -/
def scOf (a : F .f32) : F .f32 := k1_pay1 a (field6 a) (Scalar.addi (field6 a) 2#32) (Scalar.ofBits .f32 (Scalar.shli (Scalar.addi (field6 a) 2#32) 23#32))

/-- The factor the products are multiplied by. -/
def invOf (a : F .f32) : F .f32 := k1_pay2 a (field6 a) (Scalar.addi (field6 a) 2#32) (Scalar.ofBits .f32 (Scalar.shli (Scalar.addi (field6 a) 2#32) 23#32))

/-- The pair of words kept in scalar memory: the factor, and the scale times the weights' scale. -/
def wordsOf (a : F .f32) (x1 : Vec F S1x1 .f32) : Vec F S2 .f32 := fun j =>
  if (j 0).val = 0 then invOf a else Scalar.mulf (scOf a) (x1 (ix2 0 0))

/-- Two words stored, the second after the first, are the pair. -/
theorem words_store (arg9 : Memref sig .tc .smem S2 .f32) (f : arg9.view.ty.Contents (Elt F)) (a : F .f32) (x1 : Vec F S1x1 .f32)
    (h0 : ∀ a, (![0] : Fin 1 → ℕ) a + S1.size a ≤ S2.size a) (h1 : ∀ a, (![1] : Fin 1 → ℕ) a + S1.size a ≤ S2.size a)
    {w0 w1 : S1.Idx → Elt F .f32} (hw0 : w0 = fun _ => invOf a) (hw1 : w1 = fun _ => Scalar.mulf (scOf a) (x1 (ix2 0 0))) :
    View.read (Elt F) arg9.view (arg9.view.writes (Elt F) f [⟨Rect.unit (s := S2) ![1] S1.size h1, w1⟩, ⟨Rect.unit (s := S2) ![0] S1.size h0, w0⟩]) = wordsOf a x1 := by
  subst hw0 hw1
  funext y
  refine View.read_writes_apply_of_pieces _ _ (wordsOf a x1) _ ?_ y (View.cover_of_tiledL (s := S2) _ S1.size (by sl_kernel_rfl) y)
  refine View.PiecesOf.mem ⟨fun j => ?_, fun j => ?_, trivial⟩
  · refine (if_neg ?_).symm
    show ¬ 1 + 1 * (j 0).val = 0; omega
  · have : (j 0).val < 1 := (j 0).isLt
    refine (if_pos ?_).symm
    show 0 + 1 * (j 0).val = 0; omega

/-- The product of the scale and the weights' scale. -/
theorem k1_pay3_eq (v23 : F .f32) (v53 v54 : BitVec 32) (v56 : F .f32) (v81 : Elt F .f32) :
    k1_pay3 v23 v53 v54 v56 v81 = Scalar.mulf (k1_pay1 v23 v53 v54 v56) v81 := rfl

end Cert.Kernel.Gen

end
-- ==== Proof.Kernel.R1A.lean ====
/- The second call's body at the first grid point. -/
module

public import proofs.«01_k».proof.Proof.Kernel.QTile
public import Idealize.ShloMosaic.Lib.Pointwise

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point. -/
theorem run1_A (c : Dev nD) (i : grid1.Coords) (arg1 : Memref sig .tc .vmem S8x128 .f32) (harg1 : arg1.IsWhole) (arg2 : Memref sig .tc .smem S1x1 .f32) (harg2 : arg2.IsWhole) (arg3 : Memref sig .tc .vmem S256x10240 .bf16) (harg3 : arg3.IsWhole) (arg4 : Memref sig .tc .vmem S5120x4608 .fp8e4m3) (harg4 : arg4.IsWhole)
    (arg5 : Memref sig .tc .vmem S256x4608 .bf16) (harg5 : arg5.IsWhole) (arg6 : Memref sig .tc .vmem S256x5120 .fp8e4m3) (harg6 : arg6.IsWhole) (arg7 : Memref sig .tc .smem S1x1 .f32) (harg7 : arg7.IsWhole) (arg8 : Memref sig .tc .vmem S256x5120 .fp8e4m3) (harg8 : arg8.IsWhole) (arg9 : Memref sig .tc .smem S2 .f32) (harg9 : arg9.IsWhole)
    (hc0 : cond1_0 i) (hc1 : cond1_1 i) (hc2 : ¬cond1_2 i) (hc3 : ¬cond1_3 i) (hc4 : cond1_4 i)
    (x0 : Vec F S8x128 .f32) (x1 : Vec F S1x1 .f32) (x2 : Vec F S256x10240 .bf16) (x3 : Vec F S5120x4608 .fp8e4m3) (xi4 : Vec F S256x4608 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare (qTile (invOf (k1_pay9 x0)) x2) ∗ owns (c : Thread nD τ) arg7 fullShare (fun _ => scOf (k1_pay9 x0)) ∗ owns (c : Thread nD τ) arg8 fullShare (qTile (invOf (k1_pay9 x0)) x2) ∗ owns (c : Thread nD τ) arg9 fullShare (wordsOf (k1_pay9 x0) x1)) -∗ K ⟨⟩))
      ⊢ wp frame (wpE (defs₀ (F := F)) Variants.none c none) E (cc1_quant_linear i arg1 harg1 arg2 harg2 arg3 harg3 arg4 harg4 arg5 harg5 arg6 harg6 arg7 harg7 arg8 harg8 arg9 harg9) K := by
  simp only [cc1_quant_linear_eq_skeleton]; unfold cc1_quant_linear_skel
  simp only [k1_part1_eq_skeleton, k1_part188_eq_skeleton, k1_part2_eq_skeleton, k1_part3_eq_skeleton,
    k1_part4_eq_skeleton, k1_part5_eq_skeleton, k1_part6_eq_skeleton, k1_part7_eq_skeleton, k1_part8_eq_skeleton,
    k1_part9_eq_skeleton, k1_part10_eq_skeleton, k1_part11_eq_skeleton, k1_part12_eq_skeleton,
    k1_part13_eq_skeleton, k1_part14_eq_skeleton, k1_part15_eq_skeleton, k1_part16_eq_skeleton,
    k1_part17_eq_skeleton, k1_part18_eq_skeleton, k1_part19_eq_skeleton, k1_part20_eq_skeleton,
    k1_part21_eq_skeleton, k1_part22_eq_skeleton, k1_part23_eq_skeleton, k1_part24_eq_skeleton,
    k1_part25_eq_skeleton, k1_part26_eq_skeleton, k1_part27_eq_skeleton, k1_part28_eq_skeleton,
    k1_part29_eq_skeleton, k1_part30_eq_skeleton, k1_part31_eq_skeleton, k1_part32_eq_skeleton,
    k1_part33_eq_skeleton, k1_part34_eq_skeleton, k1_part35_eq_skeleton, k1_part36_eq_skeleton,
    k1_part37_eq_skeleton, k1_part38_eq_skeleton, k1_part39_eq_skeleton, k1_part40_eq_skeleton,
    k1_part41_eq_skeleton, k1_part42_eq_skeleton, k1_part43_eq_skeleton, k1_part44_eq_skeleton,
    k1_part45_eq_skeleton, k1_part46_eq_skeleton, k1_part47_eq_skeleton, k1_part48_eq_skeleton,
    k1_part49_eq_skeleton, k1_part50_eq_skeleton, k1_part51_eq_skeleton, k1_part52_eq_skeleton,
    k1_part53_eq_skeleton, k1_part54_eq_skeleton, k1_part55_eq_skeleton, k1_part56_eq_skeleton,
    k1_part57_eq_skeleton, k1_part58_eq_skeleton, k1_part59_eq_skeleton, k1_part60_eq_skeleton,
    k1_part61_eq_skeleton, k1_part189_eq_skeleton, k1_part62_eq_skeleton, k1_part63_eq_skeleton,
    k1_part64_eq_skeleton, k1_part65_eq_skeleton, k1_part66_eq_skeleton, k1_part67_eq_skeleton,
    k1_part68_eq_skeleton, k1_part69_eq_skeleton, k1_part70_eq_skeleton, k1_part71_eq_skeleton,
    k1_part72_eq_skeleton, k1_part73_eq_skeleton, k1_part74_eq_skeleton, k1_part75_eq_skeleton,
    k1_part76_eq_skeleton, k1_part77_eq_skeleton, k1_part78_eq_skeleton, k1_part79_eq_skeleton,
    k1_part80_eq_skeleton, k1_part81_eq_skeleton, k1_part82_eq_skeleton, k1_part83_eq_skeleton,
    k1_part84_eq_skeleton, k1_part85_eq_skeleton, k1_part86_eq_skeleton, k1_part87_eq_skeleton,
    k1_part88_eq_skeleton, k1_part89_eq_skeleton, k1_part90_eq_skeleton, k1_part91_eq_skeleton,
    k1_part92_eq_skeleton, k1_part93_eq_skeleton, k1_part94_eq_skeleton, k1_part95_eq_skeleton,
    k1_part96_eq_skeleton, k1_part97_eq_skeleton, k1_part98_eq_skeleton, k1_part99_eq_skeleton,
    k1_part100_eq_skeleton, k1_part101_eq_skeleton, k1_part102_eq_skeleton, k1_part103_eq_skeleton,
    k1_part104_eq_skeleton, k1_part105_eq_skeleton, k1_part106_eq_skeleton, k1_part107_eq_skeleton,
    k1_part108_eq_skeleton, k1_part109_eq_skeleton, k1_part110_eq_skeleton, k1_part111_eq_skeleton,
    k1_part112_eq_skeleton, k1_part113_eq_skeleton, k1_part114_eq_skeleton, k1_part115_eq_skeleton,
    k1_part116_eq_skeleton, k1_part117_eq_skeleton, k1_part118_eq_skeleton, k1_part119_eq_skeleton,
    k1_part120_eq_skeleton, k1_part121_eq_skeleton, k1_part190_eq_skeleton, k1_part122_eq_skeleton,
    k1_part123_eq_skeleton, k1_part124_eq_skeleton, k1_part125_eq_skeleton, k1_part126_eq_skeleton,
    k1_part127_eq_skeleton, k1_part128_eq_skeleton, k1_part129_eq_skeleton, k1_part130_eq_skeleton,
    k1_part131_eq_skeleton, k1_part132_eq_skeleton, k1_part133_eq_skeleton, k1_part134_eq_skeleton,
    k1_part135_eq_skeleton, k1_part136_eq_skeleton, k1_part137_eq_skeleton, k1_part138_eq_skeleton,
    k1_part139_eq_skeleton, k1_part140_eq_skeleton, k1_part141_eq_skeleton, k1_part142_eq_skeleton,
    k1_part143_eq_skeleton, k1_part144_eq_skeleton, k1_part145_eq_skeleton, k1_part146_eq_skeleton,
    k1_part147_eq_skeleton, k1_part148_eq_skeleton, k1_part149_eq_skeleton, k1_part150_eq_skeleton,
    k1_part151_eq_skeleton, k1_part152_eq_skeleton, k1_part153_eq_skeleton, k1_part154_eq_skeleton,
    k1_part155_eq_skeleton, k1_part156_eq_skeleton, k1_part157_eq_skeleton, k1_part158_eq_skeleton,
    k1_part159_eq_skeleton, k1_part160_eq_skeleton, k1_part161_eq_skeleton, k1_part162_eq_skeleton,
    k1_part163_eq_skeleton, k1_part164_eq_skeleton, k1_part165_eq_skeleton, k1_part166_eq_skeleton,
    k1_part167_eq_skeleton, k1_part168_eq_skeleton, k1_part169_eq_skeleton, k1_part170_eq_skeleton,
    k1_part171_eq_skeleton, k1_part172_eq_skeleton, k1_part173_eq_skeleton, k1_part174_eq_skeleton,
    k1_part175_eq_skeleton, k1_part176_eq_skeleton, k1_part177_eq_skeleton, k1_part178_eq_skeleton,
    k1_part179_eq_skeleton, k1_part180_eq_skeleton, k1_part181_eq_skeleton, k1_part182_eq_skeleton,
    k1_part183_eq_skeleton, k1_part184_eq_skeleton, k1_part185_eq_skeleton, k1_part186_eq_skeleton,
    k1_part187_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | sl_exact hc0 | sl_exact hc1 | sl_exact hc2 | sl_exact hc3 | sl_exact hc4)
  sl_step
  have hx : View.readAt (Elt F) arg1.view (Rect.unit (s := S8x128) ![0, 0] S8x128.size inb_S8x128_S8x128_0_0).toLoadRect (harg1.unread x0) = x0 := readAt_whole2 _ _ _ _
  have hsc : k1_pay1 (run1_A.sl.r c arg1 harg1 x0) (run1_A.sl.v53 c arg1 harg1 x0) (run1_A.sl.v54 c arg1 harg1 x0) (run1_A.sl.r_1 c arg1 harg1 x0) = scOf (k1_pay9 x0) :=
    Eq.trans (by sl_kernel_rfl) (congrArg (fun v => scOf (k1_pay9 v)) hx)
  have hinv : k1_pay2 (run1_A.sl.r c arg1 harg1 x0) (run1_A.sl.v53 c arg1 harg1 x0) (run1_A.sl.v54 c arg1 harg1 x0) (run1_A.sl.r_1 c arg1 harg1 x0) = invOf (k1_pay9 x0) :=
    Eq.trans (by sl_kernel_rfl) (congrArg (fun v => invOf (k1_pay9 v)) hx)
  have hH5 : ∀ f, View.read (Elt F) arg6.view (arg6.view.writes (Elt F) f (run1_A.sl.H5_320 c arg1 harg1 arg3 harg3 x0 x2)) = qTile (invOf (k1_pay9 x0)) x2 := by
    have hp : View.PiecesOf (qTile (invOf (k1_pay9 x0)) x2) (run1_A.sl.H5_320 c arg1 harg1 arg3 harg3 x0 x2) := by
      rw [show invOf (k1_pay9 x0) = run1_A.sl.r_6 c arg1 harg1 x0 from hinv.symm]
      iterate 320 refine pieces_step _ arg3 harg3 x2 _ _ _ rfl ?_
      exact trivial
    intro f; funext y
    exact View.read_writes_apply_of_pieces _ _ _ _ hp.mem y
      (View.cover_of_tiledL (run1_A.sl.H5_320 c arg1 harg1 arg3 harg3 x0 x2) S32x128.size (by sl_kernel_rfl) y)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; exact hH5 f5
  isplitl [H6]
  · iexists _; isplitr
    swap; · iexact H6
    ipureintro; refine (View.read_writes_full _ _ _ _ _).trans ?_
    funext _; exact hsc
  isplitl [HS0]
  · iexists _; isplitr
    swap; · iexact HS0
    ipureintro; refine (View.read_writes_full _ _ _ _ _).trans ?_
    unfold run1_A.sl.v17
    refine (congrArg k1_pay8 ((View.readAt_full _ _ _).trans (hH5 _))).trans ?_
    unfold k1_pay8; rw [shapeCast_self]; exact shapeCast_self _ _
  iexists _; isplitr
  swap; · iexact HS1
  ipureintro; refine words_store arg9 fs1 (k1_pay9 x0) x1 _ _ ?_ ?_
  · funext _; exact hinv
  · funext _
    rw [k1_pay3_eq, hsc]
    refine congrArg (Scalar.mulf (scOf (k1_pay9 x0))) ?_
    unfold run1_A.sl.r_4
    exact word_at2 arg2 harg2 x1 _ _

end Cert.Kernel.Gen

end
-- ==== Proof.Kernel.R1B.lean ====
/- The second call's body at a middle grid point. -/
module

public import proofs.«01_k».proof.Proof.Kernel.QTile
public import Idealize.ShloMosaic.Lib.Pointwise

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point in the middle. -/
theorem run1_B (c : Dev nD) (i : grid1.Coords) (arg1 : Memref sig .tc .vmem S8x128 .f32) (harg1 : arg1.IsWhole) (arg2 : Memref sig .tc .smem S1x1 .f32) (harg2 : arg2.IsWhole) (arg3 : Memref sig .tc .vmem S256x10240 .bf16) (harg3 : arg3.IsWhole) (arg4 : Memref sig .tc .vmem S5120x4608 .fp8e4m3) (harg4 : arg4.IsWhole)
    (arg5 : Memref sig .tc .vmem S256x4608 .bf16) (harg5 : arg5.IsWhole) (arg6 : Memref sig .tc .vmem S256x5120 .fp8e4m3) (harg6 : arg6.IsWhole) (arg7 : Memref sig .tc .smem S1x1 .f32) (harg7 : arg7.IsWhole) (arg8 : Memref sig .tc .vmem S256x5120 .fp8e4m3) (harg8 : arg8.IsWhole) (arg9 : Memref sig .tc .smem S2 .f32) (harg9 : arg9.IsWhole)
    (hc0 : ¬cond1_0 i) (hc1 : ¬cond1_1 i) (hc2 : cond1_2 i) (hc3 : ¬cond1_3 i) (hc4 : cond1_4 i)
    (x0 : Vec F S8x128 .f32) (x1 : Vec F S1x1 .f32) (x2 : Vec F S256x10240 .bf16) (x3 : Vec F S5120x4608 .fp8e4m3) (xi6 : Vec F S1x1 .f32) (xs0 : Vec F S256x5120 .fp8e4m3) (xs1 : Vec F S2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay7 xs0 x3 (xs1 (ix1 1))) ∗ owns (c : Thread nD τ) arg6 fullShare (qTile (xs1 (ix1 0)) x2) ∗ owns (c : Thread nD τ) arg7 fullShare xi6 ∗ owns (c : Thread nD τ) arg8 fullShare (qTile (xs1 (ix1 0)) x2) ∗ owns (c : Thread nD τ) arg9 fullShare xs1) -∗ K ⟨⟩))
      ⊢ wp frame (wpE (defs₀ (F := F)) Variants.none c none) E (cc1_quant_linear i arg1 harg1 arg2 harg2 arg3 harg3 arg4 harg4 arg5 harg5 arg6 harg6 arg7 harg7 arg8 harg8 arg9 harg9) K := by
  simp only [cc1_quant_linear_eq_skeleton]; unfold cc1_quant_linear_skel
  simp only [k1_part377_eq_skeleton, k1_part191_eq_skeleton, k1_part192_eq_skeleton, k1_part193_eq_skeleton,
    k1_part194_eq_skeleton, k1_part195_eq_skeleton, k1_part196_eq_skeleton, k1_part197_eq_skeleton,
    k1_part198_eq_skeleton, k1_part199_eq_skeleton, k1_part200_eq_skeleton, k1_part201_eq_skeleton,
    k1_part202_eq_skeleton, k1_part203_eq_skeleton, k1_part204_eq_skeleton, k1_part205_eq_skeleton,
    k1_part206_eq_skeleton, k1_part207_eq_skeleton, k1_part208_eq_skeleton, k1_part209_eq_skeleton,
    k1_part210_eq_skeleton, k1_part211_eq_skeleton, k1_part212_eq_skeleton, k1_part213_eq_skeleton,
    k1_part214_eq_skeleton, k1_part215_eq_skeleton, k1_part216_eq_skeleton, k1_part217_eq_skeleton,
    k1_part218_eq_skeleton, k1_part219_eq_skeleton, k1_part220_eq_skeleton, k1_part221_eq_skeleton,
    k1_part222_eq_skeleton, k1_part223_eq_skeleton, k1_part224_eq_skeleton, k1_part225_eq_skeleton,
    k1_part226_eq_skeleton, k1_part227_eq_skeleton, k1_part228_eq_skeleton, k1_part229_eq_skeleton,
    k1_part230_eq_skeleton, k1_part231_eq_skeleton, k1_part232_eq_skeleton, k1_part233_eq_skeleton,
    k1_part234_eq_skeleton, k1_part235_eq_skeleton, k1_part236_eq_skeleton, k1_part237_eq_skeleton,
    k1_part238_eq_skeleton, k1_part239_eq_skeleton, k1_part240_eq_skeleton, k1_part241_eq_skeleton,
    k1_part242_eq_skeleton, k1_part243_eq_skeleton, k1_part244_eq_skeleton, k1_part245_eq_skeleton,
    k1_part246_eq_skeleton, k1_part247_eq_skeleton, k1_part248_eq_skeleton, k1_part249_eq_skeleton,
    k1_part250_eq_skeleton, k1_part378_eq_skeleton, k1_part251_eq_skeleton, k1_part252_eq_skeleton,
    k1_part253_eq_skeleton, k1_part254_eq_skeleton, k1_part255_eq_skeleton, k1_part256_eq_skeleton,
    k1_part257_eq_skeleton, k1_part258_eq_skeleton, k1_part259_eq_skeleton, k1_part260_eq_skeleton,
    k1_part261_eq_skeleton, k1_part262_eq_skeleton, k1_part263_eq_skeleton, k1_part264_eq_skeleton,
    k1_part265_eq_skeleton, k1_part266_eq_skeleton, k1_part267_eq_skeleton, k1_part268_eq_skeleton,
    k1_part269_eq_skeleton, k1_part270_eq_skeleton, k1_part271_eq_skeleton, k1_part272_eq_skeleton,
    k1_part273_eq_skeleton, k1_part274_eq_skeleton, k1_part275_eq_skeleton, k1_part276_eq_skeleton,
    k1_part277_eq_skeleton, k1_part278_eq_skeleton, k1_part279_eq_skeleton, k1_part280_eq_skeleton,
    k1_part281_eq_skeleton, k1_part282_eq_skeleton, k1_part283_eq_skeleton, k1_part284_eq_skeleton,
    k1_part285_eq_skeleton, k1_part286_eq_skeleton, k1_part287_eq_skeleton, k1_part288_eq_skeleton,
    k1_part289_eq_skeleton, k1_part290_eq_skeleton, k1_part291_eq_skeleton, k1_part292_eq_skeleton,
    k1_part293_eq_skeleton, k1_part294_eq_skeleton, k1_part295_eq_skeleton, k1_part296_eq_skeleton,
    k1_part297_eq_skeleton, k1_part298_eq_skeleton, k1_part299_eq_skeleton, k1_part300_eq_skeleton,
    k1_part301_eq_skeleton, k1_part302_eq_skeleton, k1_part303_eq_skeleton, k1_part304_eq_skeleton,
    k1_part305_eq_skeleton, k1_part306_eq_skeleton, k1_part307_eq_skeleton, k1_part308_eq_skeleton,
    k1_part309_eq_skeleton, k1_part310_eq_skeleton, k1_part379_eq_skeleton, k1_part311_eq_skeleton,
    k1_part312_eq_skeleton, k1_part313_eq_skeleton, k1_part314_eq_skeleton, k1_part315_eq_skeleton,
    k1_part316_eq_skeleton, k1_part317_eq_skeleton, k1_part318_eq_skeleton, k1_part319_eq_skeleton,
    k1_part320_eq_skeleton, k1_part321_eq_skeleton, k1_part322_eq_skeleton, k1_part323_eq_skeleton,
    k1_part324_eq_skeleton, k1_part325_eq_skeleton, k1_part326_eq_skeleton, k1_part327_eq_skeleton,
    k1_part328_eq_skeleton, k1_part329_eq_skeleton, k1_part330_eq_skeleton, k1_part331_eq_skeleton,
    k1_part332_eq_skeleton, k1_part333_eq_skeleton, k1_part334_eq_skeleton, k1_part335_eq_skeleton,
    k1_part336_eq_skeleton, k1_part337_eq_skeleton, k1_part338_eq_skeleton, k1_part339_eq_skeleton,
    k1_part340_eq_skeleton, k1_part341_eq_skeleton, k1_part342_eq_skeleton, k1_part343_eq_skeleton,
    k1_part344_eq_skeleton, k1_part345_eq_skeleton, k1_part346_eq_skeleton, k1_part347_eq_skeleton,
    k1_part348_eq_skeleton, k1_part349_eq_skeleton, k1_part350_eq_skeleton, k1_part351_eq_skeleton,
    k1_part352_eq_skeleton, k1_part353_eq_skeleton, k1_part354_eq_skeleton, k1_part355_eq_skeleton,
    k1_part356_eq_skeleton, k1_part357_eq_skeleton, k1_part358_eq_skeleton, k1_part359_eq_skeleton,
    k1_part360_eq_skeleton, k1_part361_eq_skeleton, k1_part362_eq_skeleton, k1_part363_eq_skeleton,
    k1_part364_eq_skeleton, k1_part365_eq_skeleton, k1_part366_eq_skeleton, k1_part367_eq_skeleton,
    k1_part368_eq_skeleton, k1_part369_eq_skeleton, k1_part370_eq_skeleton, k1_part380_eq_skeleton,
    k1_part371_eq_skeleton, k1_part372_eq_skeleton, k1_part373_eq_skeleton, k1_part374_eq_skeleton,
    k1_part375_eq_skeleton, k1_part376_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg7.eq_unread hf6; obtain rfl := harg8.eq_unread hfs0; obtain rfl := harg9.eq_unread hfs1
  sl_exec (disch := first | sl_exact hc0 | sl_exact hc1 | sl_exact hc2 | sl_exact hc3 | sl_exact hc4)
  sl_step
  have hH5 : ∀ f, View.read (Elt F) arg6.view (arg6.view.writes (Elt F) f (run1_B.sl.H5_320 c arg3 harg3 arg9 harg9 x2 xs1)) = qTile (xs1 (ix1 0)) x2 := by
    have hp : View.PiecesOf (qTile (xs1 (ix1 0)) x2) (run1_B.sl.H5_320 c arg3 harg3 arg9 harg9 x2 xs1) := by
      rw [show xs1 (ix1 0) = run1_B.sl.r c arg9 harg9 xs1 from (word_at (F := F) arg9 harg9 xs1 0 _ _).symm]
      iterate 320 refine pieces_step _ arg3 harg3 x2 _ _ _ rfl ?_
      exact trivial
    intro f; funext y
    exact View.read_writes_apply_of_pieces _ _ _ _ hp.mem y
      (View.cover_of_tiledL (run1_B.sl.H5_320 c arg3 harg3 arg9 harg9 x2 xs1) S32x128.size (by sl_kernel_rfl) y)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; refine (View.read_writes_full _ _ _ _ _).trans ?_
    show k1_pay7 (F := F) _ _ _ = _
    refine congr (congr (congrArg _ (readAt_whole2 _ _ _ _)) (readAt_whole2 _ _ _ _)) ?_
    exact word_at arg9 harg9 xs1 1 _ _
  isplitl [H5]
  · iexists _; isplitr
    swap; · iexact H5
    ipureintro; exact hH5 f5
  isplitl [H6]
  · iexists _; isplitr; · ipureintro; exact harg7.read_unread _
    iexact H6
  isplitl [HS0]
  · iexists _; isplitr
    swap; · iexact HS0
    ipureintro; refine (View.read_writes_full _ _ _ _ _).trans ?_
    unfold run1_B.sl.v17
    refine (congrArg k1_pay8 ((View.readAt_full _ _ _).trans (hH5 _))).trans ?_
    unfold k1_pay8; rw [shapeCast_self]; exact shapeCast_self _ _
  iexists _; isplitr; · ipureintro; exact harg9.read_unread _
  iexact HS1

end Cert.Kernel.Gen

end
-- ==== Proof.Kernel.R1C.lean ====
/- The second call's body at the last grid point. -/
module

public import proofs.«01_k».proof.Proof.Kernel.QTile
public import Idealize.ShloMosaic.Lib.Pointwise

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the product of the tile kept in the scratch, with the words kept beside it; everything else as found. -/
theorem run1_C (c : Dev nD) (i : grid1.Coords) (arg1 : Memref sig .tc .vmem S8x128 .f32) (harg1 : arg1.IsWhole) (arg2 : Memref sig .tc .smem S1x1 .f32) (harg2 : arg2.IsWhole) (arg3 : Memref sig .tc .vmem S256x10240 .bf16) (harg3 : arg3.IsWhole) (arg4 : Memref sig .tc .vmem S5120x4608 .fp8e4m3) (harg4 : arg4.IsWhole)
    (arg5 : Memref sig .tc .vmem S256x4608 .bf16) (harg5 : arg5.IsWhole) (arg6 : Memref sig .tc .vmem S256x5120 .fp8e4m3) (harg6 : arg6.IsWhole) (arg7 : Memref sig .tc .smem S1x1 .f32) (harg7 : arg7.IsWhole) (arg8 : Memref sig .tc .vmem S256x5120 .fp8e4m3) (harg8 : arg8.IsWhole) (arg9 : Memref sig .tc .smem S2 .f32) (harg9 : arg9.IsWhole)
    (hc0 : ¬cond1_0 i) (hc1 : ¬cond1_1 i) (hc2 : ¬cond1_2 i) (hc3 : cond1_3 i) (hc4 : ¬cond1_4 i)
    (x0 : Vec F S8x128 .f32) (x1 : Vec F S1x1 .f32) (x2 : Vec F S256x10240 .bf16) (x3 : Vec F S5120x4608 .fp8e4m3) (xi5 : Vec F S256x5120 .fp8e4m3) (xi6 : Vec F S1x1 .f32) (xs0 : Vec F S256x5120 .fp8e4m3) (xs1 : Vec F S2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay7 xs0 x3 (xs1 (ix1 1))) ∗ owns (c : Thread nD τ) arg6 fullShare xi5 ∗ owns (c : Thread nD τ) arg7 fullShare xi6 ∗ owns (c : Thread nD τ) arg8 fullShare xs0 ∗ owns (c : Thread nD τ) arg9 fullShare xs1) -∗ K ⟨⟩))
      ⊢ wp frame (wpE (defs₀ (F := F)) Variants.none c none) E (cc1_quant_linear i arg1 harg1 arg2 harg2 arg3 harg3 arg4 harg4 arg5 harg5 arg6 harg6 arg7 harg7 arg8 harg8 arg9 harg9) K := by
  simp only [cc1_quant_linear_eq_skeleton]; unfold cc1_quant_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hfs0; obtain rfl := harg9.eq_unread hfs1
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; refine (View.read_writes_full _ _ _ _ _).trans ?_
    refine congr (congr (congrArg _ (readAt_whole2 _ _ _ _)) (readAt_whole2 _ _ _ _)) ?_
    exact word_at arg9 harg9 xs1 1 _ _
  isplitl [H5]
  · iexists _; isplitr; · ipureintro; exact harg6.read_unread _
    iexact H5
  isplitl [H6]
  · iexists _; isplitr; · ipureintro; exact harg7.read_unread _
    iexact H6
  isplitl [HS0]
  · iexists _; isplitr; · ipureintro; exact harg8.read_unread _
    iexact HS0
  iexists _; isplitr; · ipureintro; exact harg9.read_unread _
  iexact HS1

end Cert.Kernel.Gen

end
-- ==== Proof.Kernel.R1.lean ====
/- The second call at every grid point: what its windows and its scratch hold after each, and the obligation of its body. -/
module

public import proofs.«01_k».proof.Proof.Kernel.R1A
public import proofs.«01_k».proof.Proof.Kernel.R1B
public import proofs.«01_k».proof.Proof.Kernel.R1C
public import Idealize.ShloMosaic.Lib.Pipeline.TableIdle

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the buffer contents when the region is entered
variable (V : (c : Dev nD) → (b : Ref sig .tc) → Buf (Elt F) ((c : Thread nD τ).loc b))

/-! ## What the call computes -/

/-- The `n`-th tile's point: the last tile's from position 15 on. -/
def tileAt (n : ℕ) : Fin cfg1.N := ⟨min n 15, lt_of_lt_of_eq (by omega : min n 15 < 17) N_1.symm⟩

/-- The largest product over 448, from the first call's result. -/
def amax1 (c : Dev nD) : F .f32 := k1_pay9 (iblk1 V c 0 (tileAt 0))

/-- The `n`-th tile's codes. -/
def codes1 (c : Dev nD) (n : ℕ) : Vec F S256x5120 .fp8e4m3 := qTile (invOf (amax1 V c)) (iblk1 V c 2 (tileAt n))

/-- The pair of words kept from the first point on. -/
def words1 (c : Dev nD) : Vec F S2 .f32 := wordsOf (amax1 V c) (iblk1 V c 1 (tileAt 0))

/-- The product written back at point `t`: the tile before's. -/
def prod1 (c : Dev nD) (t : Fin cfg1.N) : Vec F S256x4608 .bf16 := k1_pay7 (codes1 V c (t.val - 1)) (iblk1 V c 3 t) (words1 V c (ix1 1))

theorem words1_0 (c : Dev nD) : words1 V c (ix1 0) = invOf (amax1 V c) := by
  unfold words1 wordsOf; exact if_pos rfl

theorem tileAt_val (t : Fin cfg1.N) (h : t.val ≤ 15) : tileAt t.val = t := Fin.ext (by show min t.val 15 = t.val; omega)

/-- What the region keeps between points: from the first point on the tile's codes and the pair of words in its scratch. -/
def PhiS1 (c : Dev nD) : (n : ℕ) → n ≤ cfg1.N → sProp 𝕄
  | 0, _ => Pipeline.ΦA spec1 c
  | n + 1, _ => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare (codes1 V c n) ∗ owns (c : Thread nD τ) scM1_1 fullShare (words1 V c)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare (codes1 V c n) ∗ owns (c : Thread nD τ) scM1_1 fullShare (words1 V c)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare (codes1 V c (n - 1)) ∗ owns (c : Thread nD τ) scM1_1 fullShare (words1 V c)) ∗ (∃ r, prngReg c r)) := by
  cases n with
  | zero => exact absurd rfl hz
  | succ n => rfl

/-- The proof data of the region's pipeline: the arrays as it finds them, each window's buffer after the body at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => prod1 V c t
    | ⟨5, _⟩ => codes1 V c t.val
    | ⟨6, _⟩ => fun _ => scOf (amax1 V c)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) : (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = prod1 V c t := by dsimp only [dat1]
theorem after1_5 (c : Dev nD) (t : Fin cfg1.N) : (dat1 V c).after 5 t = codes1 V c t.val := by dsimp only [dat1]
theorem after1_6 (c : Dev nD) (t : Fin cfg1.N) : (dat1 V c).after 6 t = fun _ => scOf (amax1 V c) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The last point finds the last tile's codes in their buffer: the point before stored them and did not write them back. -/
theorem before1_5_last (c : Dev nD) (t : Fin cfg1.N) (ht : t.val = 16) (d) : (dat1 V c).before 5 t d = codes1 V c t.val := by
  rw [Dat.before_of_pos _ 5 t (by omega) ((cfg1.win 5).fetch_out rfl t), flush1_5_iff]
  rw [if_neg (by simp only [ht]; decide)]
  unfold Dat.left
  rw [idle1_5_iff]
  have e : ∀ t' : Fin cfg1.N, t'.val = 15 → (dat1 V c).kept 5 t' d = codes1 V c 15 := fun t' h => by
    rw [show (dat1 V c).kept 5 t' d = (dat1 V c).after 5 t' from rfl, after1_5, h]
  rw [show decide (t.val - 1 = 16) = false from by rw [ht]; rfl]
  refine (e _ (by show t.val - 1 = 15; omega)).trans ?_
  rw [ht]; rfl

/-- The last point finds the scale in its buffer: the first point stored it, and none after it touches or writes it back. -/
theorem before1_6_last (c : Dev nD) (t : Fin cfg1.N) (ht : t.val = 16) (d) : (dat1 V c).before 6 t d = fun _ => scOf (amax1 V c) := by
  rw [Pipeline.Dat.before_idle_run (dat1 V c) 6 (fun t => (cfg1.win 6).fetch_out rfl t) d 15 t (by omega)
    (fun j h1 h2 => ⟨by rw [idle1_6_iff]; exact decide_eq_true (by omega), by rw [flush1_6_iff]; exact decide_eq_false (by omega)⟩)]
  rw [Dat.before_of_pos _ 6 _ (by show t.val - 15 ≠ 0; omega) ((cfg1.win 6).fetch_out rfl _), flush1_6_iff]
  rw [if_neg (by simp only [ht]; decide)]
  unfold Dat.left
  rw [idle1_6_iff]
  rw [show decide (t.val - 15 - 1 ≠ 0) = false from by rw [ht]; rfl]
  exact after1_6 V c _

/-! ## The body's obligation, at a generic point -/

theorem leaves_live1 (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

theorem leaves_flush1 (c : Dev nD) (w : Fin cfg1.W) (t : Fin cfg1.N) (h : (cfg1.win w).flush t = true) :
    (dat1 V c).leavesExact w t = owns (c : Thread nD τ) ((cfg1.win w).stage (cfg1.slots t w)) fullShare ((dat1 V c).after w t) := by
  unfold Dat.leavesExact; rw [h]; cases cfg1.idle w (cfg1.grid.coords t) <;> rfl

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the first, a middle one, or the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves_live1 V c 0 t rfl, leaves_live1 V c 1 t rfl, leaves_live1 V c 2 t rfl, leaves_live1 V c 3 t rfl, after1_0, after1_1, after1_2, after1_3]
  have hN : t.val < 17 := lt_of_lt_of_eq t.isLt (show cfg1.N = 17 from N_1)
  by_cases h0 : t.val = 0
  · have et : t = tileAt 0 := Fin.ext h0
    rw [Dat.leavesExact_idle (dat1 V c) 4 t (by rw [idle1_4_iff]; exact decide_eq_true h0) (by rw [flush1_4_iff]; exact decide_eq_false (by omega)),
      leaves_live1 V c 5 t (by rw [idle1_5_iff]; exact decide_eq_false (by omega)), leaves_live1 V c 6 t (by rw [idle1_6_iff]; exact decide_eq_false (by omega)), after1_5, after1_6]
    rw [PhiS1_castSucc V c t, PhiS1_zero V c _ _ h0, PhiA1_eq]
    have e1 : codes1 V c t.val = qTile (invOf (k1_pay9 (iblk1 V c 0 t))) (iblk1 V c 2 t) := by
      unfold codes1 amax1; rw [← et, tileAt_val t (by omega)]
    have e2 : words1 V c = wordsOf (k1_pay9 (iblk1 V c 0 t)) (iblk1 V c 1 t) := by unfold words1 amax1; rw [← et]
    have e3 : scOf (amax1 V c) = scOf (k1_pay9 (iblk1 V c 0 t)) := by unfold amax1; rw [← et]
    rw [e1, e2, e3]
    iintro ⟨⟨⟨Ha, Hb, Hc, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) _ _ _ _ _ _ _ _ _ _ _ _ _ _ _ _ _ _ ((hcond1_0 t).mpr (by omega)) ((hcond1_1 t).mpr (by omega)) (fun h => by have := (hcond1_2 t).mp h; omega) (fun h => by have := (hcond1_3 t).mp h; omega) ((hcond1_4 t).mpr (by omega)) (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [Ha Hb Hc HS0 HS1 Hg]
    · isplitl [Ha Hb Hc HS0 HS1]
      · isplitl [Ha]; · iexact Ha
        isplitl [Hb]; · iexact Hb
        isplitl [Hc]; · iexact Hc
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    iexact H6
  · by_cases h1 : t.val = 16
    · rw [leaves_live1 V c 4 t (by rw [idle1_4_iff]; exact decide_eq_false (by omega)), leaves_flush1 V c 5 t (by rw [flush1_5_iff]; exact decide_eq_true (by omega)),
        leaves_flush1 V c 6 t (by rw [flush1_6_iff]; exact decide_eq_true (by omega)), after1_4, after1_5, after1_6]
      rw [PhiS1_castSucc V c t, PhiS1_pos V c _ _ h0]
      simp only [before1_5_last V c t h1, before1_6_last V c t h1]
      have e1 : codes1 V c t.val = codes1 V c (t.val - 1) := by
        unfold codes1; rw [show tileAt t.val = tileAt (t.val - 1) from Fin.ext (by show min t.val 15 = min (t.val - 1) 15; omega)]
      rw [e1]; unfold prod1
      iintro ⟨⟨⟨Ha, Hb, Hc, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ _ _ (fun h => by have := (hcond1_0 t).mp h; omega) (fun h => by have := (hcond1_1 t).mp h; omega) (fun h => by have := (hcond1_2 t).mp h; omega) ((hcond1_3 t).mpr (by omega)) (fun h => by have := (hcond1_4 t).mp h; omega) (iblk1 V c 0 t) (iblk1 V c 1 t) (iblk1 V c 2 t) (iblk1 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Ha Hb Hc HS0 HS1 Hg]
      · isplitl [Ha Hb Hc HS0 HS1]
        · isplitl [Ha]; · iexact Ha
          isplitl [Hb]; · iexact Hb
          isplitl [Hc]; · iexact Hc
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves_live1 V c 4 t (by rw [idle1_4_iff]; exact decide_eq_false (by omega)), leaves_live1 V c 5 t (by rw [idle1_5_iff]; exact decide_eq_false (by omega)),
        Dat.leavesExact_idle (dat1 V c) 6 t (by rw [idle1_6_iff]; exact decide_eq_true (by omega)) (by rw [flush1_6_iff]; exact decide_eq_false (by omega)), after1_4, after1_5]
      rw [PhiS1_castSucc V c t, PhiS1_pos V c _ _ h0]
      have e1 : codes1 V c t.val = qTile (words1 V c (ix1 0)) (iblk1 V c 2 t) := by
        unfold codes1; rw [words1_0, tileAt_val t (by omega)]
      rw [e1]; unfold prod1
      iintro ⟨⟨⟨Ha, Hb, Hc, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ _ _ (fun h => by have := (hcond1_0 t).mp h; omega) (fun h => by have := (hcond1_1 t).mp h; omega) ((hcond1_2 t).mpr (by omega)) (fun h => by have := (hcond1_3 t).mp h; omega) ((hcond1_4 t).mpr (by omega)) (iblk1 V c 0 t) (iblk1 V c 1 t) (iblk1 V c 2 t) (iblk1 V c 3 t) _ _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Ha Hb Hc HS0 HS1 Hg]
      · isplitl [Ha Hb Hc HS0 HS1]
        · isplitl [Ha]; · iexact Ha
          isplitl [Hb]; · iexact Hb
          isplitl [Hc]; · iexact Hc
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-- What the launch hands the region is what it keeps before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point what it keeps gives that back, the scratch's contents forgotten. -/
theorem hout1 (c : Dev nD) : (dat1 V c).Φ (Fin.last cfg1.N) ⊢ Pipeline.ΦA spec1 c := by
  have hz : (Fin.last cfg1.N).val ≠ 0 := by rw [Fin.val_last]; have : cfg1.N = 17 := N_1; omega
  rw [show (dat1 V c).Φ (Fin.last cfg1.N) = PhiS1 V c (Fin.last cfg1.N).val (Nat.le_of_lt_succ (Fin.last cfg1.N).isLt) from rfl, PhiS1_pos V c _ _ hz, PhiA1_eq]
  iintro ⟨⟨Ha, Hb, Hc, HS0, HS1⟩, Hg⟩
  isplitl [Ha Hb Hc HS0 HS1]
  · isplitl [Ha]; · iexact Ha
    isplitl [Hb]; · iexact Hb
    isplitl [Hc]; · iexact Hc
    isplitl [HS0]; · iexists _; iexact HS0
    iexists _; iexact HS1
  iexact Hg

end Region

end Cert.Kernel.Gen

end
-- ==== Proof.Kernel.Run.lean ====
/- The whole program: its two calls among the host operations, from the launch to the return. -/
module

public import proofs.«01_k».proof.Proof.Kernel.R0
public import proofs.«01_k».proof.Proof.Kernel.R1

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters it ends, nothing faulting, with the results at what the second call's
    write-backs leave, the arguments as launched and every counter at zero. -/
theorem run : θ_run defs (onTc (τ := τ) (main (F := F))) ⟨m, fun _ => 0, ρ⟩ (fun r => (∀ c : Dev nD,
      r.2.mem ((c.tc : Thread nD τ).loc main_v3_0) = (dat1 (V3 m ρ) c).arrAt 4 cfg1.N
      ∧ r.2.mem ((c.tc : Thread nD τ).loc main_v3_1) = (dat1 (V3 m ρ) c).arrAt 5 cfg1.N
      ∧ r.2.mem ((c.tc : Thread nD τ).loc main_v3_2) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v3_0 (by decide))).trans (W4_arr m ρ c 4),
       (h c _ (mem_uc main_v3_1 (by decide))).trans (W4_arr m ρ c 5),
       (h c _ (mem_uc main_v3_2 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-- The arguments end as launched, every counter at zero: `run` without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2, h.2⟩) (run m ρ)

end Cert.Kernel.Gen

end
-- ==== Proof.KernelIdeal.Amax.lean ====
/- The running maxima that the first call keeps: what one trip of its loop leaves in the accumulator. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.Pipeline.ReadBack
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

theorem k0_trip_lt (k : Fin k0_t1_loop.trips) : k.val < 16 := Nat.lt_of_lt_of_le k.isLt k0_t1_abs.2.1

/-- One step of a trip: the running maxima against the sizes of 16 rows of products, eight rows at a time. -/
def chunkV (v : FVec F S8x128 .f32) (g u : Vec F S16x128 .bf16) : FVec F S8x128 .f32 :=
  maximumf (maximumf v (absf (extractStridedSlice S8x128 ![0, 0] (k0_pay4 g u) slices_S16x128_o0_0_S8x128)))
    (absf (extractStridedSlice S8x128 ![8, 0] (k0_pay4 g u) slices_S16x128_o8_0_S8x128))

/-- The 16 rows of trip `k` of a tile, columns `128 n` to `128 n + 127`. -/
def blockAt (x : Vec F S256x10240 .bf16) (k : Fin k0_t1_loop.trips) (n : ℕ) : Vec F S16x128 .bf16 := fun y =>
  x (ix2 ⟨16 * k.val + (y 0).val, by have := k0_trip_lt k; have : (y 0).val < 16 := (y 0).isLt; show _ < 256; omega⟩
    ⟨(128 * n + (y 1).val) % 10240, Nat.mod_lt _ (by decide)⟩)

/-- The running maxima after `n` steps of trip `k`, from `v`. -/
def foldV (x : Vec F S256x10240 .bf16) (k : Fin k0_t1_loop.trips) (v : FVec F S8x128 .f32) : ℕ → FVec F S8x128 .f32
  | 0 => v
  | n + 1 => chunkV (foldV x k v n) (blockAt x k n) (blockAt x k (n + 40))

/-- The running maxima after `n` trips, from `v`. -/
def tripsV (x : Vec F S256x10240 .bf16) (v : FVec F S8x128 .f32) : ℕ → FVec F S8x128 .f32
  | 0 => v
  | n + 1 => if h : n < k0_t1_loop.trips then foldV x ⟨n, h⟩ (tripsV x v n) 40 else tripsV x v n

/-- The first row of trip `k`. -/
theorem k0_row (k : Fin k0_t1_loop.trips) : k0_off1 k 0 = 16 * k.val :=
  congrFun (k0_off1_eq k) 0

/-- The load of 16 rows at column `128 n`. -/
theorem block_load (arg1 : Memref sig .tc .vmem S256x10240 .bf16) (harg1 : arg1.IsWhole) (x : Vec F S256x10240 .bf16) (k : Fin k0_t1_loop.trips) (n : ℕ) (hn : n < 80)
    (h : ∀ a, (![k0_off1 k 0, 128 * n] : Fin 2 → ℕ) a + S16x128.size a ≤ S256x10240.size a) :
    View.readAt (Elt F) arg1.view (Rect.unit (s := S256x10240) ![k0_off1 k 0, 128 * n] S16x128.size h).toLoadRect (harg1.unread x) = blockAt x k n := by
  rw [View.readAt_eq_ld, harg1.read_unread]
  funext y
  unfold View.ld blockAt
  have hy : (y 1).val < 128 := (y 1).isLt
  congr 1; funext a; fin_cases a
  · refine Fin.ext ?_; show k0_off1 k 0 + 1 * (y 0).val = 16 * k.val + (y 0).val; have := k0_row k; omega
  · refine Fin.ext ?_; show 128 * n + 1 * (y 1).val = (128 * n + (y 1).val) % 10240; omega

theorem block_inb (k : Fin k0_t1_loop.trips) (n : ℕ) (hn : n < 80) (a : Fin 2) : (![k0_off1 k 0, 128 * n] : Fin 2 → ℕ) a + S16x128.size a ≤ S256x10240.size a := by
  have := k0_trip_lt k
  fin_cases a
  · show k0_off1 k 0 + 16 ≤ 256; rw [k0_row]; omega
  · show 128 * n + 128 ≤ 10240; omega

/-- One more step, computed from the two loads. -/
theorem fold_step (arg1 : Memref sig .tc .vmem S256x10240 .bf16) (harg1 : arg1.IsWhole) (x : Vec F S256x10240 .bf16) (k : Fin k0_t1_loop.trips) (v0 : FVec F S8x128 .f32) (n : ℕ) (hn : n < 40)
    {v w : FVec F S8x128 .f32}
    (hw : w = chunkV v (View.readAt (Elt F) arg1.view (Rect.unit (s := S256x10240) ![k0_off1 k 0, 128 * n] S16x128.size (block_inb k n (by omega))).toLoadRect (harg1.unread x))
      (View.readAt (Elt F) arg1.view (Rect.unit (s := S256x10240) ![k0_off1 k 0, 128 * (n + 40)] S16x128.size (block_inb k (n + 40) (by omega))).toLoadRect (harg1.unread x)))
    (hv : v = foldV x k v0 n) : w = foldV x k v0 (n + 1) := by
  rw [hw, hv, block_load arg1 harg1 x k n (by omega), block_load arg1 harg1 x k (n + 40) (by omega)]; rfl

set_option maxHeartbeats 2000000 in
/-- A trip leaves the running maxima of its 40 steps. -/
theorem trip_read (𝒱 : Variants) (c : Dev nD) (bd : Option 𝒱.V) (i : grid0.Coords) (arg1 : Memref sig .tc .vmem S256x10240 .bf16) (harg1 : arg1.IsWhole) (arg2 : Memref sig .tc .vmem S8x128 .f32) (harg2 : arg2.IsWhole)
    (x : Vec F S256x10240 .bf16) (k : Fin k0_t1_loop.trips) (f : BufTy.Contents (Elt F) arg2.view.ty) :
    View.read (Elt F) arg2.view (arg2.view.writes (Elt F) f (tripL_k0_t1 𝒱 c bd i arg1 harg1 arg2 harg2 (harg1.unread x) k f)) = foldV x k (View.read (Elt F) arg2.view f) 40 := by
  unfold tripL_k0_t1 trip_k0_t1
  refine (View.read_writes_full _ _ _ _ _).trans ?_
  iterate 40 refine fold_step arg1 harg1 x k _ _ (by decide) rfl ?_
  show shapeCast S8x128 _ _ = _
  rw [shapeCast_self, View.readAt_full]
  rfl

/-- After `n` trips the accumulator holds the running maxima of them. -/
theorem trips_read (𝒱 : Variants) (c : Dev nD) (bd : Option 𝒱.V) (i : grid0.Coords) (arg1 : Memref sig .tc .vmem S256x10240 .bf16) (harg1 : arg1.IsWhole) (arg2 : Memref sig .tc .vmem S8x128 .f32) (harg2 : arg2.IsWhole)
    (x : Vec F S256x10240 .bf16) (G : BufTy.Contents (Elt F) arg2.view.ty) (n : ℕ) (hn : n ≤ k0_t1_loop.trips) :
    View.read (Elt F) arg2.view (arg2.view.writes (Elt F) G (pb_k0_t1 𝒱 c bd i arg1 harg1 arg2 harg2 (harg1.unread x) G n)) = tripsV x (View.read (Elt F) arg2.view G) n := by
  induction n with
  | zero => rfl
  | succ n ih =>
    have h : n < k0_t1_loop.trips := hn
    rw [pb_k0_t1_succ 𝒱 c bd i arg1 harg1 arg2 harg2 (harg1.unread x) G ⟨n, h⟩, View.writes_append, trip_read, ih (Nat.le_of_lt h)]
    exact (show tripsV x (View.read (Elt F) arg2.view G) (n + 1) = _ from dif_pos h).symm

end Cert.KernelIdeal.Gen

end
-- ==== Proof.KernelIdeal.R0.lean ====
/- The first call at every grid point: what its accumulator holds after each, and the obligation of its body. -/
module

public import proofs.«01_k».proof.Proof.KernelIdeal.Amax

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the buffer contents when the region is entered
variable (V : (c : Dev nD) → (b : Ref sig .tc) → Buf (Elt F) ((c : Thread nD τ).loc b))
/-! # REGION 0 of @main: custom_call 0, `cc0_swiglu_amax` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs -/

/-- Each window's current staging memref at point `t`, spelled as the pipeline passes it (`bodyAt0`), and its wholeness. -/
abbrev ms0_0 (t : Fin cfg0.N) : Memref sig .tc .vmem S256x10240 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)

set_option maxHeartbeats 1000000 in
/-- The body at the first point: the running maxima start at zero. -/
theorem run0_A (c : Dev nD) (i : grid0.Coords) (arg1 : Memref sig .tc .vmem S256x10240 .bf16) (harg1 : arg1.IsWhole) (arg2 : Memref sig .tc .vmem S8x128 .f32) (harg2 : arg2.IsWhole) (hc0 : cond0_0 i)
    (x0 : Vec F S256x10240 .bf16) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (tripsV x0 k0_pay1 k0_t1_loop.trips)) -∗ K ⟨⟩))
      ⊢ wp frame (wpE (defs₀ (F := F)) Variants.none c none) E (cc0_swiglu_amax i arg1 harg1 arg2 harg2) K := by
  simp only [cc0_swiglu_amax_eq_skeleton]; unfold cc0_swiglu_amax_skel
  unfold owns
  iintro ⟨⟨%f0, %hf0, H0⟩, ⟨%d1, %f1, -, H1⟩, Hk⟩
  obtain rfl := harg1.eq_unread hf0
  sl_exec (disch := first | sl_exact hc0)
  sl_step
  iapply Hk
  isplitl [H0]
  · iexists _; isplitr; · ipureintro; exact harg1.read_unread _
    iexact H0
  iexists _; isplitr
  swap; · iexact H1
  ipureintro
  rw [View.writes_append, trips_read _ c _ i arg1 harg1 arg2 harg2 x0 _ _ le_rfl]
  exact congrArg (fun v => tripsV x0 v k0_t1_loop.trips) (View.read_writes_full _ _ _ _ _)

set_option maxHeartbeats 1000000 in
/-- The body at a later point: they go on from what the point before left. -/
theorem run0_B (c : Dev nD) (i : grid0.Coords) (arg1 : Memref sig .tc .vmem S256x10240 .bf16) (harg1 : arg1.IsWhole) (arg2 : Memref sig .tc .vmem S8x128 .f32) (harg2 : arg2.IsWhole) (hc0 : ¬cond0_0 i)
    (x0 : Vec F S256x10240 .bf16) (x1 : Vec F S8x128 .f32) (E : Set ℕ) (K : PUnit → sProp 𝕄) :
    iprop(owns (c : Thread nD τ) arg1 fullShare x0 ∗ owns (c : Thread nD τ) arg2 fullShare x1
        ∗ (iprop(owns (c : Thread nD τ) arg1 fullShare x0 ∗ owns (c : Thread nD τ) arg2 fullShare (tripsV x0 x1 k0_t1_loop.trips)) -∗ K ⟨⟩))
      ⊢ wp frame (wpE (defs₀ (F := F)) Variants.none c none) E (cc0_swiglu_amax i arg1 harg1 arg2 harg2) K := by
  simp only [cc0_swiglu_amax_eq_skeleton]; unfold cc0_swiglu_amax_skel
  unfold owns
  iintro ⟨⟨%f0, %hf0, H0⟩, ⟨%f1, %hf1, H1⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  iexists _; isplitr
  swap; · iexact H1
  ipureintro
  rw [trips_read _ c _ i arg1 harg1 arg2 harg2 x0 _ _ le_rfl, harg2.read_unread]

/-! ## What the accumulator holds after each point -/

/-- The running maxima after the body at position `n`. -/
def accV (c : Dev nD) : (n : ℕ) → n < cfg0.N → Vec F S8x128 .f32
  | 0, hn => tripsV (iblk0 V c 0 ⟨0, hn⟩) k0_pay1 k0_t1_loop.trips
  | n + 1, hn => tripsV (iblk0 V c 0 ⟨n + 1, hn⟩) (accV c n (Nat.lt_of_succ_lt hn)) k0_t1_loop.trips

theorem accV_first (c : Dev nD) (t : Fin cfg0.N) (h : t.val = 0) : accV V c t.val t.isLt = tripsV (iblk0 V c 0 t) k0_pay1 k0_t1_loop.trips := by
  obtain ⟨n, hn⟩ := t
  cases n with
  | zero => rfl
  | succ n => exact absurd h (Nat.succ_ne_zero n)

theorem accV_later (c : Dev nD) (t : Fin cfg0.N) (h : t.val ≠ 0) :
    accV V c t.val t.isLt = tripsV (iblk0 V c 0 t) (accV V c (t.val - 1) (Nat.lt_of_le_of_lt (Nat.sub_le _ _) t.isLt)) k0_t1_loop.trips := by
  obtain ⟨n, hn⟩ := t
  cases n with
  | zero => exact absurd rfl h
  | succ n => rfl

/-! ## The pipeline's proof data -/

/-- The arrays as the region finds them, each window's buffer after the body at each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accV V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = accV V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
/-- A later point finds in the accumulator what the point before left. -/
theorem before0_1_B (c : Dev nD) (t : Fin cfg0.N) (h0 : t.val ≠ 0) (d) :
    (dat0 V c).before 1 t d = accV V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the first, or a later one. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val = 0
  · rw [accV_first V c t h0]
    iintro ⟨HΦ, Ho, ⟨%d0, H0⟩, ⟨%d1, H1⟩⟩
    iapply (run0_A c (grid0.coords t) _ _ _ _ ((hcond0_0 t).mpr (by omega)) (iblk0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [accV_later V c t h0]
    simp only [before0_1_B V c t h0]
    iintro ⟨HΦ, Ho, ⟨%d0, H0⟩, ⟨%d1, H1⟩⟩
    iapply (run0_B c (grid0.coords t) _ _ _ _ (fun h => by have := (hcond0_0 t).mp h; omega) (iblk0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Gen

end
-- ==== Proof.KernelIdeal.R1Base.lean ====
/- What the second pallas_call of the program (the quantised product) is run over: its windows' blocks, the
   conditions of its branches in closed form over the grid's points, the points at which an output is left alone or
   written back, and its staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 17 = 0 :=
  (fun t => by
    have ht : t.val < 17 := Nat.lt_of_lt_of_eq t.isLt N_1
    have e0 : (grid1.coords t 0).val = t.val / 1 % 17 := Pipeline.Grid.coords_val t 0 (by decide) rfl
    simp only [cond1_0, k1_cond1, e0]
    word_cmp
   : ∀ t : Fin grid1.N, cond1_0 (grid1.coords t) ↔ t.val % 17 = 0)

/-- The condition of the body's `scf.if` 1 (`k1_h2`), from the grid coordinates (the skeleton's scalar
    chain substituted). -/
abbrev cond1_1 (i : grid1.Coords) : Prop := k1_cond2 i = 1#1
/-- It holds at the first point only — by arithmetic of the point. -/
theorem hcond1_1 : ∀ t : Fin cfg1.N, cond1_1 (grid1.coords t) ↔ t.val % 17 = 0 :=
  (fun t => by
    have ht : t.val < 17 := Nat.lt_of_lt_of_eq t.isLt N_1
    have e0 : (grid1.coords t 0).val = t.val / 1 % 17 := Pipeline.Grid.coords_val t 0 (by decide) rfl
    simp only [cond1_1, k1_cond2, e0]
    word_cmp
   : ∀ t : Fin grid1.N, cond1_1 (grid1.coords t) ↔ t.val % 17 = 0)

/-- The condition of the body's `scf.if` 2 (`k1_h3`), from the grid coordinates (the skeleton's scalar
    chain substituted). -/
abbrev cond1_2 (i : grid1.Coords) : Prop := k1_cond3 i = 1#1
/-- It holds at the points whose coordinates have 1 ≤ i0 and i0 ≤ 15 — decided over the grid. -/
theorem hcond1_2 : ∀ t : Fin cfg1.N, cond1_2 (grid1.coords t) ↔ (1 ≤ t.val % 17 ∧ t.val % 17 ≤ 15) :=
  (by decide +kernel : ∀ t : Fin grid1.N, cond1_2 (grid1.coords t) ↔ (1 ≤ t.val % 17 ∧ t.val % 17 ≤ 15))

/-- The condition of the body's `scf.if` 3 (`k1_h4`), from the grid coordinates (the skeleton's scalar
    chain substituted). -/
abbrev cond1_3 (i : grid1.Coords) : Prop := k1_cond4 i = 1#1
/-- It holds at the last point only — by arithmetic of the point. -/
theorem hcond1_3 : ∀ t : Fin cfg1.N, cond1_3 (grid1.coords t) ↔ t.val % 17 = 16 :=
  (fun t => by
    have ht : t.val < 17 := Nat.lt_of_lt_of_eq t.isLt N_1
    have e0 : (grid1.coords t 0).val = t.val / 1 % 17 := Pipeline.Grid.coords_val t 0 (by decide) rfl
    simp only [cond1_3, k1_cond4, e0]
    word_cmp
   : ∀ t : Fin grid1.N, cond1_3 (grid1.coords t) ↔ t.val % 17 = 16)

/-- The condition of the body's `scf.if` 4 (`k1_h5`), from the grid coordinates (the skeleton's scalar
    chain substituted). -/
abbrev cond1_4 (i : grid1.Coords) : Prop := (Scalar.cmpi .ne (Scalar.extui (Scalar.cmpi .slt (BitVec.ofNat 32 (i 0).val) 16#32)) 0#32) = 1#1
/-- It holds at the points before point 16 — decided over the grid. -/
theorem hcond1_4 : ∀ t : Fin cfg1.N, cond1_4 (grid1.coords t) ↔ t.val < 16 :=
  (by decide +kernel : ∀ t : Fin grid1.N, cond1_4 (grid1.coords t) ↔ t.val < 16)

/-! ## Where the outputs are left alone, and where they are written back -/

theorem idle1_4_iff : ∀ t : Fin cfg1.N, cfg1.idle 4 (grid1.coords t) = decide (t.val = 0) :=
  (by decide +kernel : ∀ t : Fin grid1.N, cfg1.idle 4 (grid1.coords t) = decide (t.val = 0))
theorem idle1_5_iff : ∀ t : Fin cfg1.N, cfg1.idle 5 (grid1.coords t) = decide (t.val = 16) :=
  (by decide +kernel : ∀ t : Fin grid1.N, cfg1.idle 5 (grid1.coords t) = decide (t.val = 16))
theorem idle1_6_iff : ∀ t : Fin cfg1.N, cfg1.idle 6 (grid1.coords t) = decide (t.val ≠ 0) :=
  (by decide +kernel : ∀ t : Fin grid1.N, cfg1.idle 6 (grid1.coords t) = decide (t.val ≠ 0))
theorem flush1_4_iff : ∀ t : Fin cfg1.N, (cfg1.win 4).flush t = decide (t.val ≠ 0) :=
  (by decide +kernel : ∀ t : Fin cfg1.N, (cfg1.win 4).flush t = decide (t.val ≠ 0))
theorem flush1_5_iff : ∀ t : Fin cfg1.N, (cfg1.win 5).flush t = decide (t.val ≠ 15) :=
  (by decide +kernel : ∀ t : Fin cfg1.N, (cfg1.win 5).flush t = decide (t.val ≠ 15))
theorem flush1_6_iff : ∀ t : Fin cfg1.N, (cfg1.win 6).flush t = decide (t.val = 16) :=
  (by decide +kernel : ∀ t : Fin cfg1.N, (cfg1.win 6).flush t = decide (t.val = 16))

/-! ## The staging and scratch memrefs -/

/-- Each window's current staging memref at point `t`, spelled as the pipeline passes it (`bodyAt0`), and its wholeness. -/
abbrev ms1_0 (t : Fin cfg1.N) : Memref sig .tc .vmem S8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x10240 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5120x4608 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x4608 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x5120 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .smem S1x1 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S256x5120 .fp8e4m3 := Memref.whole cc1_scratch0
abbrev scM1_1 : Memref sig .tc .smem S2 .f32 := Memref.whole cc1_scratch1
/-- What the region holds besides its windows and its own scratch: the first call's staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f))

/-- The region's invariant before its first point, with its scratch as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Gen

end
-- ==== Proof.KernelIdeal.QTile.lean ====
/- The codes of one tile of the second call, number by number, and the pieces in which its body stores them. -/
module

public import proofs.«01_k».proof.Proof.KernelIdeal.R1Base
public import Idealize.ShloMosaic.Lib.Pointwise
public import Idealize.ShloMosaic.Lib.VecWindow
public import Idealize.ShloMosaic.Lib.Pipeline.ReadBack
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One code: the gated product of one pair of numbers, scaled by `inv`, clipped and cast, as the body computes it. -/
def qElt (inv : F .f32) (g u : Elt F .bf16) : Elt F .fp8e4m3 := k1_pay5 inv (fun _ => g) (fun _ => u) (ix2 0 0)

/-- The codes of a whole tile: a row's gate half and its up half, pair by pair. -/
def qTile (inv : F .f32) (x : Vec F S256x10240 .bf16) : Vec F S256x5120 .fp8e4m3 := fun j =>
  qElt inv (x (ix2 (j 0) ⟨(j 1).val, lt_of_lt_of_le (j 1).isLt (by decide)⟩)) (x (ix2 (j 0) ⟨(j 1).val + 5120, Nat.add_lt_add_right (j 1).isLt 5120⟩))

/-- A stored piece of codes is computed number by number. -/
theorem k1_pay5_apply (inv : F .f32) (v w : Vec F S32x128 .bf16) (y : S32x128.Idx) : k1_pay5 inv v w y = qElt inv (v y) (w y) := by
  unfold qElt k1_pay5
  rw [shapeCast_self, shapeCast_self, shapeCast_self, shapeCast_self]
  rfl

/-- The piece stored at row `r`, column `c`, from the pieces of the tile loaded at columns `c` and `c + 5120`, is that block of the tile's codes. -/
theorem piece_eq (inv : F .f32) (arg3 : Memref sig .tc .vmem S256x10240 .bf16) (harg3 : arg3.IsWhole) (x : Vec F S256x10240 .bf16) (r c : ℕ)
    (h1 : ∀ a, (![r, c] : Fin 2 → ℕ) a + S32x128.size a ≤ S256x10240.size a) (h2 : ∀ a, (![r, c + 5120] : Fin 2 → ℕ) a + S32x128.size a ≤ S256x10240.size a)
    (h3 : ∀ a, (![r, c] : Fin 2 → ℕ) a + S32x128.size a ≤ S256x5120.size a) (y : S32x128.Idx) :
    k1_pay5 inv (View.readAt (Elt F) arg3.view (Rect.unit (s := S256x10240) ![r, c] S32x128.size h1).toLoadRect (harg3.unread x))
        (View.readAt (Elt F) arg3.view (Rect.unit (s := S256x10240) ![r, c + 5120] S32x128.size h2).toLoadRect (harg3.unread x)) y
      = qTile inv x ((Rect.unit (s := S256x5120) ![r, c] S32x128.size h3).emb y) := by
  rw [k1_pay5_apply, View.readAt_eq_ld, View.readAt_eq_ld, harg3.read_unread]
  unfold qTile View.ld
  congr 1
  · congr 1; funext a; fin_cases a <;> rfl
  · congr 1; funext a; fin_cases a
    · rfl
    · refine Fin.ext ?_; show c + 5120 + 1 * (y 1).val = c + 1 * (y 1).val + 5120; omega

theorem inb_gate {r c : ℕ} (h3 : ∀ a, (![r, c] : Fin 2 → ℕ) a + S32x128.size a ≤ S256x5120.size a) (a : Fin 2) : (![r, c] : Fin 2 → ℕ) a + S32x128.size a ≤ S256x10240.size a := by
  have := h3 a; fin_cases a
  · exact this
  · exact this.trans (by decide)

theorem inb_up {r c : ℕ} (h3 : ∀ a, (![r, c] : Fin 2 → ℕ) a + S32x128.size a ≤ S256x5120.size a) (a : Fin 2) : (![r, c + 5120] : Fin 2 → ℕ) a + S32x128.size a ≤ S256x10240.size a := by
  have := h3 a; fin_cases a
  · exact this
  · have h : c + 128 ≤ 5120 := this
    show c + 5120 + 128 ≤ 10240; omega

/-- One more stored piece, computed from the tile's pieces beside it: the list with it is still made of blocks of the tile's codes. -/
theorem pieces_step (inv : F .f32) (arg3 : Memref sig .tc .vmem S256x10240 .bf16) (harg3 : arg3.IsWhole) (x : Vec F S256x10240 .bf16) (r c : ℕ)
    (h3 : ∀ a, (![r, c] : Fin 2 → ℕ) a + S32x128.size a ≤ S256x5120.size a) {w : S32x128.Idx → Elt F .fp8e4m3} {L : List (View.Piece (Elt F) S256x5120 .fp8e4m3)}
    (hw : w = k1_pay5 inv (View.readAt (Elt F) arg3.view (Rect.unit (s := S256x10240) ![r, c] S32x128.size (inb_gate h3)).toLoadRect (harg3.unread x))
      (View.readAt (Elt F) arg3.view (Rect.unit (s := S256x10240) ![r, c + 5120] S32x128.size (inb_up h3)).toLoadRect (harg3.unread x)))
    (hL : View.PiecesOf (qTile inv x) L) : View.PiecesOf (qTile inv x) (⟨Rect.unit (s := S256x5120) ![r, c] S32x128.size h3, w⟩ :: L) :=
  ⟨fun y => by rw [hw]; exact piece_eq inv arg3 harg3 x r c _ _ h3 y, hL⟩

/-- A load of the whole of a memref reads its contents. -/
theorem readAt_whole2 {sp : Space} {e : EltTy} {n m : ℕ} (a : Memref sig .tc sp ⟨2, ![n, m]⟩ e) (ha : a.IsWhole) (X : (⟨2, ![n, m]⟩ : Shape).Idx → Elt F e)
    (h : ∀ i, (![0, 0] : Fin 2 → ℕ) i + (⟨2, ![n, m]⟩ : Shape).size i ≤ (⟨2, ![n, m]⟩ : Shape).size i) :
    View.readAt (Elt F) a.view (Rect.unit (s := ⟨2, ![n, m]⟩) ![0, 0] (⟨2, ![n, m]⟩ : Shape).size h).toLoadRect (ha.unread X) = X := by
  rw [View.readAt_eq_ld, ha.read_unread]
  exact View.ld_unit_zero (by funext i; fin_cases i <;> rfl) h X

/-- A word of the pair kept in scalar memory. -/
theorem word_at (arg9 : Memref sig .tc .smem S2 .f32) (harg9 : arg9.IsWhole) (xs1 : Vec F S2 .f32) (k : Fin 2) (h : ∀ a, (![k.val] : Fin 1 → ℕ) a + S1.size a ≤ S2.size a)
    (j : (Rect.unit (s := S2) ![k.val] S1.size h).shape.Idx) :
    View.readAt (Elt F) arg9.view (Rect.unit (s := S2) ![k.val] S1.size h).toLoadRect (harg9.unread xs1) j = xs1 (ix1 k) := by
  rw [View.readAt_eq_ld, harg9.read_unread]
  unfold View.ld
  congr 1; funext a; fin_cases a
  refine Fin.ext ?_
  have : (j 0).val < 1 := (j 0).isLt
  show k.val + 1 * (j 0).val = k.val; omega

/-- The one word of a [1, 1] operand in scalar memory. -/
theorem word_at2 (arg2 : Memref sig .tc .smem S1x1 .f32) (harg2 : arg2.IsWhole) (x1 : Vec F S1x1 .f32) (h : ∀ a, (![0, 0] : Fin 2 → ℕ) a + S1x1.size a ≤ S1x1.size a)
    (j : (Rect.unit (s := S1x1) ![0, 0] S1x1.size h).shape.Idx) :
    View.readAt (Elt F) arg2.view (Rect.unit (s := S1x1) ![0, 0] S1x1.size h).toLoadRect (harg2.unread x1) j = x1 (ix2 0 0) := by
  rw [View.readAt_eq_ld, harg2.read_unread]
  unfold View.ld
  congr 1; funext a
  have h0 : (j 0).val < 1 := (j 0).isLt
  have h1 : (j 1).val < 1 := (j 1).isLt
  fin_cases a
  · refine Fin.ext ?_; show 0 + 1 * (j 0).val = 0; omega
  · refine Fin.ext ?_; show 0 + 1 * (j 1).val = 0; omega

/-! ## The three words of the first point -/

/-- One step of the search for the exponent field: the bit `b` is kept if `a` is at least the power of two with the field `f + b`. -/
def fieldStep (a : F .f32) (b f : BitVec 32) : BitVec 32 :=
  Scalar.select (Scalar.cmpf .oge a (Scalar.ofBits .f32 (Scalar.shli (Scalar.addi f b) 23#32))) (Scalar.addi f b) f

/-- The search's first six steps. -/
def field6 (a : F .f32) : BitVec 32 :=
  fieldStep a 4#32 (fieldStep a 8#32 (fieldStep a 16#32 (fieldStep a 32#32 (fieldStep a 64#32 (fieldStep a 128#32 0#32)))))

/-- The scale stored, from the largest product over 448. -/
def scOf (a : F .f32) : F .f32 := k1_pay1 a (field6 a) (Scalar.addi (field6 a) 2#32) (Scalar.ofBits .f32 (Scalar.shli (Scalar.addi (field6 a) 2#32) 23#32))

/-- The factor the products are multiplied by. -/
def invOf (a : F .f32) : F .f32 := k1_pay2 a (field6 a) (Scalar.addi (field6 a) 2#32) (Scalar.ofBits .f32 (Scalar.shli (Scalar.addi (field6 a) 2#32) 23#32))

/-- The pair of words kept in scalar memory: the factor, and the scale times the weights' scale. -/
def wordsOf (a : F .f32) (x1 : Vec F S1x1 .f32) : Vec F S2 .f32 := fun j =>
  if (j 0).val = 0 then invOf a else Scalar.mulf (scOf a) (x1 (ix2 0 0))

/-- Two words stored, the second after the first, are the pair. -/
theorem words_store (arg9 : Memref sig .tc .smem S2 .f32) (f : arg9.view.ty.Contents (Elt F)) (a : F .f32) (x1 : Vec F S1x1 .f32)
    (h0 : ∀ a, (![0] : Fin 1 → ℕ) a + S1.size a ≤ S2.size a) (h1 : ∀ a, (![1] : Fin 1 → ℕ) a + S1.size a ≤ S2.size a)
    {w0 w1 : S1.Idx → Elt F .f32} (hw0 : w0 = fun _ => invOf a) (hw1 : w1 = fun _ => Scalar.mulf (scOf a) (x1 (ix2 0 0))) :
    View.read (Elt F) arg9.view (arg9.view.writes (Elt F) f [⟨Rect.unit (s := S2) ![1] S1.size h1, w1⟩, ⟨Rect.unit (s := S2) ![0] S1.size h0, w0⟩]) = wordsOf a x1 := by
  subst hw0 hw1
  funext y
  refine View.read_writes_apply_of_pieces _ _ (wordsOf a x1) _ ?_ y (View.cover_of_tiledL (s := S2) _ S1.size (by sl_kernel_rfl) y)
  refine View.PiecesOf.mem ⟨fun j => ?_, fun j => ?_, trivial⟩
  · refine (if_neg ?_).symm
    show ¬ 1 + 1 * (j 0).val = 0; omega
  · have : (j 0).val < 1 := (j 0).isLt
    refine (if_pos ?_).symm
    show 0 + 1 * (j 0).val = 0; omega

/-- The product of the scale and the weights' scale. -/
theorem k1_pay3_eq (v23 : F .f32) (v53 v54 : BitVec 32) (v56 : F .f32) (v81 : Elt F .f32) :
    k1_pay3 v23 v53 v54 v56 v81 = Scalar.mulf (k1_pay1 v23 v53 v54 v56) v81 := rfl

end Cert.KernelIdeal.Gen

end
-- ==== Proof.KernelIdeal.R1A.lean ====
/- The second call's body at the first grid point. -/
module

public import proofs.«01_k».proof.Proof.KernelIdeal.QTile
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point. -/
theorem run1_A (c : Dev nD) (i : grid1.Coords) (arg1 : Memref sig .tc .vmem S8x128 .f32) (harg1 : arg1.IsWhole) (arg2 : Memref sig .tc .smem S1x1 .f32) (harg2 : arg2.IsWhole) (arg3 : Memref sig .tc .vmem S256x10240 .bf16) (harg3 : arg3.IsWhole) (arg4 : Memref sig .tc .vmem S5120x4608 .fp8e4m3) (harg4 : arg4.IsWhole)
    (arg5 : Memref sig .tc .vmem S256x4608 .bf16) (harg5 : arg5.IsWhole) (arg6 : Memref sig .tc .vmem S256x5120 .fp8e4m3) (harg6 : arg6.IsWhole) (arg7 : Memref sig .tc .smem S1x1 .f32) (harg7 : arg7.IsWhole) (arg8 : Memref sig .tc .vmem S256x5120 .fp8e4m3) (harg8 : arg8.IsWhole) (arg9 : Memref sig .tc .smem S2 .f32) (harg9 : arg9.IsWhole)
    (hc0 : cond1_0 i) (hc1 : cond1_1 i) (hc2 : ¬cond1_2 i) (hc3 : ¬cond1_3 i) (hc4 : cond1_4 i)
    (x0 : Vec F S8x128 .f32) (x1 : Vec F S1x1 .f32) (x2 : Vec F S256x10240 .bf16) (x3 : Vec F S5120x4608 .fp8e4m3) (xi4 : Vec F S256x4608 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare (qTile (invOf (k1_pay9 x0)) x2) ∗ owns (c : Thread nD τ) arg7 fullShare (fun _ => scOf (k1_pay9 x0)) ∗ owns (c : Thread nD τ) arg8 fullShare (qTile (invOf (k1_pay9 x0)) x2) ∗ owns (c : Thread nD τ) arg9 fullShare (wordsOf (k1_pay9 x0) x1)) -∗ K ⟨⟩))
      ⊢ wp frame (wpE (defs₀ (F := F)) Variants.none c none) E (cc1_quant_linear i arg1 harg1 arg2 harg2 arg3 harg3 arg4 harg4 arg5 harg5 arg6 harg6 arg7 harg7 arg8 harg8 arg9 harg9) K := by
  simp only [cc1_quant_linear_eq_skeleton]; unfold cc1_quant_linear_skel
  simp only [k1_part1_eq_skeleton, k1_part188_eq_skeleton, k1_part2_eq_skeleton, k1_part3_eq_skeleton,
    k1_part4_eq_skeleton, k1_part5_eq_skeleton, k1_part6_eq_skeleton, k1_part7_eq_skeleton, k1_part8_eq_skeleton,
    k1_part9_eq_skeleton, k1_part10_eq_skeleton, k1_part11_eq_skeleton, k1_part12_eq_skeleton,
    k1_part13_eq_skeleton, k1_part14_eq_skeleton, k1_part15_eq_skeleton, k1_part16_eq_skeleton,
    k1_part17_eq_skeleton, k1_part18_eq_skeleton, k1_part19_eq_skeleton, k1_part20_eq_skeleton,
    k1_part21_eq_skeleton, k1_part22_eq_skeleton, k1_part23_eq_skeleton, k1_part24_eq_skeleton,
    k1_part25_eq_skeleton, k1_part26_eq_skeleton, k1_part27_eq_skeleton, k1_part28_eq_skeleton,
    k1_part29_eq_skeleton, k1_part30_eq_skeleton, k1_part31_eq_skeleton, k1_part32_eq_skeleton,
    k1_part33_eq_skeleton, k1_part34_eq_skeleton, k1_part35_eq_skeleton, k1_part36_eq_skeleton,
    k1_part37_eq_skeleton, k1_part38_eq_skeleton, k1_part39_eq_skeleton, k1_part40_eq_skeleton,
    k1_part41_eq_skeleton, k1_part42_eq_skeleton, k1_part43_eq_skeleton, k1_part44_eq_skeleton,
    k1_part45_eq_skeleton, k1_part46_eq_skeleton, k1_part47_eq_skeleton, k1_part48_eq_skeleton,
    k1_part49_eq_skeleton, k1_part50_eq_skeleton, k1_part51_eq_skeleton, k1_part52_eq_skeleton,
    k1_part53_eq_skeleton, k1_part54_eq_skeleton, k1_part55_eq_skeleton, k1_part56_eq_skeleton,
    k1_part57_eq_skeleton, k1_part58_eq_skeleton, k1_part59_eq_skeleton, k1_part60_eq_skeleton,
    k1_part61_eq_skeleton, k1_part189_eq_skeleton, k1_part62_eq_skeleton, k1_part63_eq_skeleton,
    k1_part64_eq_skeleton, k1_part65_eq_skeleton, k1_part66_eq_skeleton, k1_part67_eq_skeleton,
    k1_part68_eq_skeleton, k1_part69_eq_skeleton, k1_part70_eq_skeleton, k1_part71_eq_skeleton,
    k1_part72_eq_skeleton, k1_part73_eq_skeleton, k1_part74_eq_skeleton, k1_part75_eq_skeleton,
    k1_part76_eq_skeleton, k1_part77_eq_skeleton, k1_part78_eq_skeleton, k1_part79_eq_skeleton,
    k1_part80_eq_skeleton, k1_part81_eq_skeleton, k1_part82_eq_skeleton, k1_part83_eq_skeleton,
    k1_part84_eq_skeleton, k1_part85_eq_skeleton, k1_part86_eq_skeleton, k1_part87_eq_skeleton,
    k1_part88_eq_skeleton, k1_part89_eq_skeleton, k1_part90_eq_skeleton, k1_part91_eq_skeleton,
    k1_part92_eq_skeleton, k1_part93_eq_skeleton, k1_part94_eq_skeleton, k1_part95_eq_skeleton,
    k1_part96_eq_skeleton, k1_part97_eq_skeleton, k1_part98_eq_skeleton, k1_part99_eq_skeleton,
    k1_part100_eq_skeleton, k1_part101_eq_skeleton, k1_part102_eq_skeleton, k1_part103_eq_skeleton,
    k1_part104_eq_skeleton, k1_part105_eq_skeleton, k1_part106_eq_skeleton, k1_part107_eq_skeleton,
    k1_part108_eq_skeleton, k1_part109_eq_skeleton, k1_part110_eq_skeleton, k1_part111_eq_skeleton,
    k1_part112_eq_skeleton, k1_part113_eq_skeleton, k1_part114_eq_skeleton, k1_part115_eq_skeleton,
    k1_part116_eq_skeleton, k1_part117_eq_skeleton, k1_part118_eq_skeleton, k1_part119_eq_skeleton,
    k1_part120_eq_skeleton, k1_part121_eq_skeleton, k1_part190_eq_skeleton, k1_part122_eq_skeleton,
    k1_part123_eq_skeleton, k1_part124_eq_skeleton, k1_part125_eq_skeleton, k1_part126_eq_skeleton,
    k1_part127_eq_skeleton, k1_part128_eq_skeleton, k1_part129_eq_skeleton, k1_part130_eq_skeleton,
    k1_part131_eq_skeleton, k1_part132_eq_skeleton, k1_part133_eq_skeleton, k1_part134_eq_skeleton,
    k1_part135_eq_skeleton, k1_part136_eq_skeleton, k1_part137_eq_skeleton, k1_part138_eq_skeleton,
    k1_part139_eq_skeleton, k1_part140_eq_skeleton, k1_part141_eq_skeleton, k1_part142_eq_skeleton,
    k1_part143_eq_skeleton, k1_part144_eq_skeleton, k1_part145_eq_skeleton, k1_part146_eq_skeleton,
    k1_part147_eq_skeleton, k1_part148_eq_skeleton, k1_part149_eq_skeleton, k1_part150_eq_skeleton,
    k1_part151_eq_skeleton, k1_part152_eq_skeleton, k1_part153_eq_skeleton, k1_part154_eq_skeleton,
    k1_part155_eq_skeleton, k1_part156_eq_skeleton, k1_part157_eq_skeleton, k1_part158_eq_skeleton,
    k1_part159_eq_skeleton, k1_part160_eq_skeleton, k1_part161_eq_skeleton, k1_part162_eq_skeleton,
    k1_part163_eq_skeleton, k1_part164_eq_skeleton, k1_part165_eq_skeleton, k1_part166_eq_skeleton,
    k1_part167_eq_skeleton, k1_part168_eq_skeleton, k1_part169_eq_skeleton, k1_part170_eq_skeleton,
    k1_part171_eq_skeleton, k1_part172_eq_skeleton, k1_part173_eq_skeleton, k1_part174_eq_skeleton,
    k1_part175_eq_skeleton, k1_part176_eq_skeleton, k1_part177_eq_skeleton, k1_part178_eq_skeleton,
    k1_part179_eq_skeleton, k1_part180_eq_skeleton, k1_part181_eq_skeleton, k1_part182_eq_skeleton,
    k1_part183_eq_skeleton, k1_part184_eq_skeleton, k1_part185_eq_skeleton, k1_part186_eq_skeleton,
    k1_part187_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | sl_exact hc0 | sl_exact hc1 | sl_exact hc2 | sl_exact hc3 | sl_exact hc4)
  sl_step
  have hx : View.readAt (Elt F) arg1.view (Rect.unit (s := S8x128) ![0, 0] S8x128.size inb_S8x128_S8x128_0_0).toLoadRect (harg1.unread x0) = x0 := readAt_whole2 _ _ _ _
  have hsc : k1_pay1 (run1_A.sl.r c arg1 harg1 x0) (run1_A.sl.v53 c arg1 harg1 x0) (run1_A.sl.v54 c arg1 harg1 x0) (run1_A.sl.r_1 c arg1 harg1 x0) = scOf (k1_pay9 x0) :=
    Eq.trans (by sl_kernel_rfl) (congrArg (fun v => scOf (k1_pay9 v)) hx)
  have hinv : k1_pay2 (run1_A.sl.r c arg1 harg1 x0) (run1_A.sl.v53 c arg1 harg1 x0) (run1_A.sl.v54 c arg1 harg1 x0) (run1_A.sl.r_1 c arg1 harg1 x0) = invOf (k1_pay9 x0) :=
    Eq.trans (by sl_kernel_rfl) (congrArg (fun v => invOf (k1_pay9 v)) hx)
  have hH5 : ∀ f, View.read (Elt F) arg6.view (arg6.view.writes (Elt F) f (run1_A.sl.H5_320 c arg1 harg1 arg3 harg3 x0 x2)) = qTile (invOf (k1_pay9 x0)) x2 := by
    have hp : View.PiecesOf (qTile (invOf (k1_pay9 x0)) x2) (run1_A.sl.H5_320 c arg1 harg1 arg3 harg3 x0 x2) := by
      rw [show invOf (k1_pay9 x0) = run1_A.sl.r_6 c arg1 harg1 x0 from hinv.symm]
      iterate 320 refine pieces_step _ arg3 harg3 x2 _ _ _ rfl ?_
      exact trivial
    intro f; funext y
    exact View.read_writes_apply_of_pieces _ _ _ _ hp.mem y
      (View.cover_of_tiledL (run1_A.sl.H5_320 c arg1 harg1 arg3 harg3 x0 x2) S32x128.size (by sl_kernel_rfl) y)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; exact hH5 f5
  isplitl [H6]
  · iexists _; isplitr
    swap; · iexact H6
    ipureintro; refine (View.read_writes_full _ _ _ _ _).trans ?_
    funext _; exact hsc
  isplitl [HS0]
  · iexists _; isplitr
    swap; · iexact HS0
    ipureintro; refine (View.read_writes_full _ _ _ _ _).trans ?_
    unfold run1_A.sl.v17
    refine (congrArg k1_pay8 ((View.readAt_full _ _ _).trans (hH5 _))).trans ?_
    unfold k1_pay8; rw [shapeCast_self]; exact shapeCast_self _ _
  iexists _; isplitr
  swap; · iexact HS1
  ipureintro; refine words_store arg9 fs1 (k1_pay9 x0) x1 _ _ ?_ ?_
  · funext _; exact hinv
  · funext _
    rw [k1_pay3_eq, hsc]
    refine congrArg (Scalar.mulf (scOf (k1_pay9 x0))) ?_
    unfold run1_A.sl.r_4
    exact word_at2 arg2 harg2 x1 _ _

end Cert.KernelIdeal.Gen

end
-- ==== Proof.KernelIdeal.R1B.lean ====
/- The second call's body at a middle grid point. -/
module

public import proofs.«01_k».proof.Proof.KernelIdeal.QTile
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point in the middle. -/
theorem run1_B (c : Dev nD) (i : grid1.Coords) (arg1 : Memref sig .tc .vmem S8x128 .f32) (harg1 : arg1.IsWhole) (arg2 : Memref sig .tc .smem S1x1 .f32) (harg2 : arg2.IsWhole) (arg3 : Memref sig .tc .vmem S256x10240 .bf16) (harg3 : arg3.IsWhole) (arg4 : Memref sig .tc .vmem S5120x4608 .fp8e4m3) (harg4 : arg4.IsWhole)
    (arg5 : Memref sig .tc .vmem S256x4608 .bf16) (harg5 : arg5.IsWhole) (arg6 : Memref sig .tc .vmem S256x5120 .fp8e4m3) (harg6 : arg6.IsWhole) (arg7 : Memref sig .tc .smem S1x1 .f32) (harg7 : arg7.IsWhole) (arg8 : Memref sig .tc .vmem S256x5120 .fp8e4m3) (harg8 : arg8.IsWhole) (arg9 : Memref sig .tc .smem S2 .f32) (harg9 : arg9.IsWhole)
    (hc0 : ¬cond1_0 i) (hc1 : ¬cond1_1 i) (hc2 : cond1_2 i) (hc3 : ¬cond1_3 i) (hc4 : cond1_4 i)
    (x0 : Vec F S8x128 .f32) (x1 : Vec F S1x1 .f32) (x2 : Vec F S256x10240 .bf16) (x3 : Vec F S5120x4608 .fp8e4m3) (xi6 : Vec F S1x1 .f32) (xs0 : Vec F S256x5120 .fp8e4m3) (xs1 : Vec F S2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay7 xs0 x3 (xs1 (ix1 1))) ∗ owns (c : Thread nD τ) arg6 fullShare (qTile (xs1 (ix1 0)) x2) ∗ owns (c : Thread nD τ) arg7 fullShare xi6 ∗ owns (c : Thread nD τ) arg8 fullShare (qTile (xs1 (ix1 0)) x2) ∗ owns (c : Thread nD τ) arg9 fullShare xs1) -∗ K ⟨⟩))
      ⊢ wp frame (wpE (defs₀ (F := F)) Variants.none c none) E (cc1_quant_linear i arg1 harg1 arg2 harg2 arg3 harg3 arg4 harg4 arg5 harg5 arg6 harg6 arg7 harg7 arg8 harg8 arg9 harg9) K := by
  simp only [cc1_quant_linear_eq_skeleton]; unfold cc1_quant_linear_skel
  simp only [k1_part377_eq_skeleton, k1_part191_eq_skeleton, k1_part192_eq_skeleton, k1_part193_eq_skeleton,
    k1_part194_eq_skeleton, k1_part195_eq_skeleton, k1_part196_eq_skeleton, k1_part197_eq_skeleton,
    k1_part198_eq_skeleton, k1_part199_eq_skeleton, k1_part200_eq_skeleton, k1_part201_eq_skeleton,
    k1_part202_eq_skeleton, k1_part203_eq_skeleton, k1_part204_eq_skeleton, k1_part205_eq_skeleton,
    k1_part206_eq_skeleton, k1_part207_eq_skeleton, k1_part208_eq_skeleton, k1_part209_eq_skeleton,
    k1_part210_eq_skeleton, k1_part211_eq_skeleton, k1_part212_eq_skeleton, k1_part213_eq_skeleton,
    k1_part214_eq_skeleton, k1_part215_eq_skeleton, k1_part216_eq_skeleton, k1_part217_eq_skeleton,
    k1_part218_eq_skeleton, k1_part219_eq_skeleton, k1_part220_eq_skeleton, k1_part221_eq_skeleton,
    k1_part222_eq_skeleton, k1_part223_eq_skeleton, k1_part224_eq_skeleton, k1_part225_eq_skeleton,
    k1_part226_eq_skeleton, k1_part227_eq_skeleton, k1_part228_eq_skeleton, k1_part229_eq_skeleton,
    k1_part230_eq_skeleton, k1_part231_eq_skeleton, k1_part232_eq_skeleton, k1_part233_eq_skeleton,
    k1_part234_eq_skeleton, k1_part235_eq_skeleton, k1_part236_eq_skeleton, k1_part237_eq_skeleton,
    k1_part238_eq_skeleton, k1_part239_eq_skeleton, k1_part240_eq_skeleton, k1_part241_eq_skeleton,
    k1_part242_eq_skeleton, k1_part243_eq_skeleton, k1_part244_eq_skeleton, k1_part245_eq_skeleton,
    k1_part246_eq_skeleton, k1_part247_eq_skeleton, k1_part248_eq_skeleton, k1_part249_eq_skeleton,
    k1_part250_eq_skeleton, k1_part378_eq_skeleton, k1_part251_eq_skeleton, k1_part252_eq_skeleton,
    k1_part253_eq_skeleton, k1_part254_eq_skeleton, k1_part255_eq_skeleton, k1_part256_eq_skeleton,
    k1_part257_eq_skeleton, k1_part258_eq_skeleton, k1_part259_eq_skeleton, k1_part260_eq_skeleton,
    k1_part261_eq_skeleton, k1_part262_eq_skeleton, k1_part263_eq_skeleton, k1_part264_eq_skeleton,
    k1_part265_eq_skeleton, k1_part266_eq_skeleton, k1_part267_eq_skeleton, k1_part268_eq_skeleton,
    k1_part269_eq_skeleton, k1_part270_eq_skeleton, k1_part271_eq_skeleton, k1_part272_eq_skeleton,
    k1_part273_eq_skeleton, k1_part274_eq_skeleton, k1_part275_eq_skeleton, k1_part276_eq_skeleton,
    k1_part277_eq_skeleton, k1_part278_eq_skeleton, k1_part279_eq_skeleton, k1_part280_eq_skeleton,
    k1_part281_eq_skeleton, k1_part282_eq_skeleton, k1_part283_eq_skeleton, k1_part284_eq_skeleton,
    k1_part285_eq_skeleton, k1_part286_eq_skeleton, k1_part287_eq_skeleton, k1_part288_eq_skeleton,
    k1_part289_eq_skeleton, k1_part290_eq_skeleton, k1_part291_eq_skeleton, k1_part292_eq_skeleton,
    k1_part293_eq_skeleton, k1_part294_eq_skeleton, k1_part295_eq_skeleton, k1_part296_eq_skeleton,
    k1_part297_eq_skeleton, k1_part298_eq_skeleton, k1_part299_eq_skeleton, k1_part300_eq_skeleton,
    k1_part301_eq_skeleton, k1_part302_eq_skeleton, k1_part303_eq_skeleton, k1_part304_eq_skeleton,
    k1_part305_eq_skeleton, k1_part306_eq_skeleton, k1_part307_eq_skeleton, k1_part308_eq_skeleton,
    k1_part309_eq_skeleton, k1_part310_eq_skeleton, k1_part379_eq_skeleton, k1_part311_eq_skeleton,
    k1_part312_eq_skeleton, k1_part313_eq_skeleton, k1_part314_eq_skeleton, k1_part315_eq_skeleton,
    k1_part316_eq_skeleton, k1_part317_eq_skeleton, k1_part318_eq_skeleton, k1_part319_eq_skeleton,
    k1_part320_eq_skeleton, k1_part321_eq_skeleton, k1_part322_eq_skeleton, k1_part323_eq_skeleton,
    k1_part324_eq_skeleton, k1_part325_eq_skeleton, k1_part326_eq_skeleton, k1_part327_eq_skeleton,
    k1_part328_eq_skeleton, k1_part329_eq_skeleton, k1_part330_eq_skeleton, k1_part331_eq_skeleton,
    k1_part332_eq_skeleton, k1_part333_eq_skeleton, k1_part334_eq_skeleton, k1_part335_eq_skeleton,
    k1_part336_eq_skeleton, k1_part337_eq_skeleton, k1_part338_eq_skeleton, k1_part339_eq_skeleton,
    k1_part340_eq_skeleton, k1_part341_eq_skeleton, k1_part342_eq_skeleton, k1_part343_eq_skeleton,
    k1_part344_eq_skeleton, k1_part345_eq_skeleton, k1_part346_eq_skeleton, k1_part347_eq_skeleton,
    k1_part348_eq_skeleton, k1_part349_eq_skeleton, k1_part350_eq_skeleton, k1_part351_eq_skeleton,
    k1_part352_eq_skeleton, k1_part353_eq_skeleton, k1_part354_eq_skeleton, k1_part355_eq_skeleton,
    k1_part356_eq_skeleton, k1_part357_eq_skeleton, k1_part358_eq_skeleton, k1_part359_eq_skeleton,
    k1_part360_eq_skeleton, k1_part361_eq_skeleton, k1_part362_eq_skeleton, k1_part363_eq_skeleton,
    k1_part364_eq_skeleton, k1_part365_eq_skeleton, k1_part366_eq_skeleton, k1_part367_eq_skeleton,
    k1_part368_eq_skeleton, k1_part369_eq_skeleton, k1_part370_eq_skeleton, k1_part380_eq_skeleton,
    k1_part371_eq_skeleton, k1_part372_eq_skeleton, k1_part373_eq_skeleton, k1_part374_eq_skeleton,
    k1_part375_eq_skeleton, k1_part376_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg7.eq_unread hf6; obtain rfl := harg8.eq_unread hfs0; obtain rfl := harg9.eq_unread hfs1
  sl_exec (disch := first | sl_exact hc0 | sl_exact hc1 | sl_exact hc2 | sl_exact hc3 | sl_exact hc4)
  sl_step
  have hH5 : ∀ f, View.read (Elt F) arg6.view (arg6.view.writes (Elt F) f (run1_B.sl.H5_320 c arg3 harg3 arg9 harg9 x2 xs1)) = qTile (xs1 (ix1 0)) x2 := by
    have hp : View.PiecesOf (qTile (xs1 (ix1 0)) x2) (run1_B.sl.H5_320 c arg3 harg3 arg9 harg9 x2 xs1) := by
      rw [show xs1 (ix1 0) = run1_B.sl.r c arg9 harg9 xs1 from (word_at (F := F) arg9 harg9 xs1 0 _ _).symm]
      iterate 320 refine pieces_step _ arg3 harg3 x2 _ _ _ rfl ?_
      exact trivial
    intro f; funext y
    exact View.read_writes_apply_of_pieces _ _ _ _ hp.mem y
      (View.cover_of_tiledL (run1_B.sl.H5_320 c arg3 harg3 arg9 harg9 x2 xs1) S32x128.size (by sl_kernel_rfl) y)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; refine (View.read_writes_full _ _ _ _ _).trans ?_
    show k1_pay7 (F := F) _ _ _ = _
    refine congr (congr (congrArg _ (readAt_whole2 _ _ _ _)) (readAt_whole2 _ _ _ _)) ?_
    exact word_at arg9 harg9 xs1 1 _ _
  isplitl [H5]
  · iexists _; isplitr
    swap; · iexact H5
    ipureintro; exact hH5 f5
  isplitl [H6]
  · iexists _; isplitr; · ipureintro; exact harg7.read_unread _
    iexact H6
  isplitl [HS0]
  · iexists _; isplitr
    swap; · iexact HS0
    ipureintro; refine (View.read_writes_full _ _ _ _ _).trans ?_
    unfold run1_B.sl.v17
    refine (congrArg k1_pay8 ((View.readAt_full _ _ _).trans (hH5 _))).trans ?_
    unfold k1_pay8; rw [shapeCast_self]; exact shapeCast_self _ _
  iexists _; isplitr; · ipureintro; exact harg9.read_unread _
  iexact HS1

end Cert.KernelIdeal.Gen

end
-- ==== Proof.KernelIdeal.R1C.lean ====
/- The second call's body at the last grid point. -/
module

public import proofs.«01_k».proof.Proof.KernelIdeal.QTile
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the product of the tile kept in the scratch, with the words kept beside it; everything else as found. -/
theorem run1_C (c : Dev nD) (i : grid1.Coords) (arg1 : Memref sig .tc .vmem S8x128 .f32) (harg1 : arg1.IsWhole) (arg2 : Memref sig .tc .smem S1x1 .f32) (harg2 : arg2.IsWhole) (arg3 : Memref sig .tc .vmem S256x10240 .bf16) (harg3 : arg3.IsWhole) (arg4 : Memref sig .tc .vmem S5120x4608 .fp8e4m3) (harg4 : arg4.IsWhole)
    (arg5 : Memref sig .tc .vmem S256x4608 .bf16) (harg5 : arg5.IsWhole) (arg6 : Memref sig .tc .vmem S256x5120 .fp8e4m3) (harg6 : arg6.IsWhole) (arg7 : Memref sig .tc .smem S1x1 .f32) (harg7 : arg7.IsWhole) (arg8 : Memref sig .tc .vmem S256x5120 .fp8e4m3) (harg8 : arg8.IsWhole) (arg9 : Memref sig .tc .smem S2 .f32) (harg9 : arg9.IsWhole)
    (hc0 : ¬cond1_0 i) (hc1 : ¬cond1_1 i) (hc2 : ¬cond1_2 i) (hc3 : cond1_3 i) (hc4 : ¬cond1_4 i)
    (x0 : Vec F S8x128 .f32) (x1 : Vec F S1x1 .f32) (x2 : Vec F S256x10240 .bf16) (x3 : Vec F S5120x4608 .fp8e4m3) (xi5 : Vec F S256x5120 .fp8e4m3) (xi6 : Vec F S1x1 .f32) (xs0 : Vec F S256x5120 .fp8e4m3) (xs1 : Vec F S2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay7 xs0 x3 (xs1 (ix1 1))) ∗ owns (c : Thread nD τ) arg6 fullShare xi5 ∗ owns (c : Thread nD τ) arg7 fullShare xi6 ∗ owns (c : Thread nD τ) arg8 fullShare xs0 ∗ owns (c : Thread nD τ) arg9 fullShare xs1) -∗ K ⟨⟩))
      ⊢ wp frame (wpE (defs₀ (F := F)) Variants.none c none) E (cc1_quant_linear i arg1 harg1 arg2 harg2 arg3 harg3 arg4 harg4 arg5 harg5 arg6 harg6 arg7 harg7 arg8 harg8 arg9 harg9) K := by
  simp only [cc1_quant_linear_eq_skeleton]; unfold cc1_quant_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hfs0; obtain rfl := harg9.eq_unread hfs1
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; refine (View.read_writes_full _ _ _ _ _).trans ?_
    refine congr (congr (congrArg _ (readAt_whole2 _ _ _ _)) (readAt_whole2 _ _ _ _)) ?_
    exact word_at arg9 harg9 xs1 1 _ _
  isplitl [H5]
  · iexists _; isplitr; · ipureintro; exact harg6.read_unread _
    iexact H5
  isplitl [H6]
  · iexists _; isplitr; · ipureintro; exact harg7.read_unread _
    iexact H6
  isplitl [HS0]
  · iexists _; isplitr; · ipureintro; exact harg8.read_unread _
    iexact HS0
  iexists _; isplitr; · ipureintro; exact harg9.read_unread _
  iexact HS1

end Cert.KernelIdeal.Gen

end
-- ==== Proof.KernelIdeal.R1.lean ====
/- The second call at every grid point: what its windows and its scratch hold after each, and the obligation of its body. -/
module

public import proofs.«01_k».proof.Proof.KernelIdeal.R1A
public import proofs.«01_k».proof.Proof.KernelIdeal.R1B
public import proofs.«01_k».proof.Proof.KernelIdeal.R1C
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the buffer contents when the region is entered
variable (V : (c : Dev nD) → (b : Ref sig .tc) → Buf (Elt F) ((c : Thread nD τ).loc b))

/-! ## What the call computes -/

/-- The `n`-th tile's point: the last tile's from position 15 on. -/
def tileAt (n : ℕ) : Fin cfg1.N := ⟨min n 15, lt_of_lt_of_eq (by omega : min n 15 < 17) N_1.symm⟩

/-- The largest product over 448, from the first call's result. -/
def amax1 (c : Dev nD) : F .f32 := k1_pay9 (iblk1 V c 0 (tileAt 0))

/-- The `n`-th tile's codes. -/
def codes1 (c : Dev nD) (n : ℕ) : Vec F S256x5120 .fp8e4m3 := qTile (invOf (amax1 V c)) (iblk1 V c 2 (tileAt n))

/-- The pair of words kept from the first point on. -/
def words1 (c : Dev nD) : Vec F S2 .f32 := wordsOf (amax1 V c) (iblk1 V c 1 (tileAt 0))

/-- The product written back at point `t`: the tile before's. -/
def prod1 (c : Dev nD) (t : Fin cfg1.N) : Vec F S256x4608 .bf16 := k1_pay7 (codes1 V c (t.val - 1)) (iblk1 V c 3 t) (words1 V c (ix1 1))

theorem words1_0 (c : Dev nD) : words1 V c (ix1 0) = invOf (amax1 V c) := by
  unfold words1 wordsOf; exact if_pos rfl

theorem tileAt_val (t : Fin cfg1.N) (h : t.val ≤ 15) : tileAt t.val = t := Fin.ext (by show min t.val 15 = t.val; omega)

/-- What the region keeps between points: from the first point on the tile's codes and the pair of words in its scratch. -/
def PhiS1 (c : Dev nD) : (n : ℕ) → n ≤ cfg1.N → sProp 𝕄
  | 0, _ => Pipeline.ΦA spec1 c
  | n + 1, _ => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare (codes1 V c n) ∗ owns (c : Thread nD τ) scM1_1 fullShare (words1 V c)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare (codes1 V c n) ∗ owns (c : Thread nD τ) scM1_1 fullShare (words1 V c)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare (codes1 V c (n - 1)) ∗ owns (c : Thread nD τ) scM1_1 fullShare (words1 V c)) ∗ (∃ r, prngReg c r)) := by
  cases n with
  | zero => exact absurd rfl hz
  | succ n => rfl

/-- The proof data of the region's pipeline: the arrays as it finds them, each window's buffer after the body at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => prod1 V c t
    | ⟨5, _⟩ => codes1 V c t.val
    | ⟨6, _⟩ => fun _ => scOf (amax1 V c)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) : (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = prod1 V c t := by dsimp only [dat1]
theorem after1_5 (c : Dev nD) (t : Fin cfg1.N) : (dat1 V c).after 5 t = codes1 V c t.val := by dsimp only [dat1]
theorem after1_6 (c : Dev nD) (t : Fin cfg1.N) : (dat1 V c).after 6 t = fun _ => scOf (amax1 V c) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The last point finds the last tile's codes in their buffer: the point before stored them and did not write them back. -/
theorem before1_5_last (c : Dev nD) (t : Fin cfg1.N) (ht : t.val = 16) (d) : (dat1 V c).before 5 t d = codes1 V c t.val := by
  rw [Dat.before_of_pos _ 5 t (by omega) ((cfg1.win 5).fetch_out rfl t), flush1_5_iff]
  rw [if_neg (by simp only [ht]; decide)]
  unfold Dat.left
  rw [idle1_5_iff]
  have e : ∀ t' : Fin cfg1.N, t'.val = 15 → (dat1 V c).kept 5 t' d = codes1 V c 15 := fun t' h => by
    rw [show (dat1 V c).kept 5 t' d = (dat1 V c).after 5 t' from rfl, after1_5, h]
  rw [show decide (t.val - 1 = 16) = false from by rw [ht]; rfl]
  refine (e _ (by show t.val - 1 = 15; omega)).trans ?_
  rw [ht]; rfl

/-- The last point finds the scale in its buffer: the first point stored it, and none after it touches or writes it back. -/
theorem before1_6_last (c : Dev nD) (t : Fin cfg1.N) (ht : t.val = 16) (d) : (dat1 V c).before 6 t d = fun _ => scOf (amax1 V c) := by
  rw [Pipeline.Dat.before_idle_run (dat1 V c) 6 (fun t => (cfg1.win 6).fetch_out rfl t) d 15 t (by omega)
    (fun j h1 h2 => ⟨by rw [idle1_6_iff]; exact decide_eq_true (by omega), by rw [flush1_6_iff]; exact decide_eq_false (by omega)⟩)]
  rw [Dat.before_of_pos _ 6 _ (by show t.val - 15 ≠ 0; omega) ((cfg1.win 6).fetch_out rfl _), flush1_6_iff]
  rw [if_neg (by simp only [ht]; decide)]
  unfold Dat.left
  rw [idle1_6_iff]
  rw [show decide (t.val - 15 - 1 ≠ 0) = false from by rw [ht]; rfl]
  exact after1_6 V c _

/-! ## The body's obligation, at a generic point -/

theorem leaves_live1 (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

theorem leaves_flush1 (c : Dev nD) (w : Fin cfg1.W) (t : Fin cfg1.N) (h : (cfg1.win w).flush t = true) :
    (dat1 V c).leavesExact w t = owns (c : Thread nD τ) ((cfg1.win w).stage (cfg1.slots t w)) fullShare ((dat1 V c).after w t) := by
  unfold Dat.leavesExact; rw [h]; cases cfg1.idle w (cfg1.grid.coords t) <;> rfl

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the first, a middle one, or the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves_live1 V c 0 t rfl, leaves_live1 V c 1 t rfl, leaves_live1 V c 2 t rfl, leaves_live1 V c 3 t rfl, after1_0, after1_1, after1_2, after1_3]
  have hN : t.val < 17 := lt_of_lt_of_eq t.isLt (show cfg1.N = 17 from N_1)
  by_cases h0 : t.val = 0
  · have et : t = tileAt 0 := Fin.ext h0
    rw [Dat.leavesExact_idle (dat1 V c) 4 t (by rw [idle1_4_iff]; exact decide_eq_true h0) (by rw [flush1_4_iff]; exact decide_eq_false (by omega)),
      leaves_live1 V c 5 t (by rw [idle1_5_iff]; exact decide_eq_false (by omega)), leaves_live1 V c 6 t (by rw [idle1_6_iff]; exact decide_eq_false (by omega)), after1_5, after1_6]
    rw [PhiS1_castSucc V c t, PhiS1_zero V c _ _ h0, PhiA1_eq]
    have e1 : codes1 V c t.val = qTile (invOf (k1_pay9 (iblk1 V c 0 t))) (iblk1 V c 2 t) := by
      unfold codes1 amax1; rw [← et, tileAt_val t (by omega)]
    have e2 : words1 V c = wordsOf (k1_pay9 (iblk1 V c 0 t)) (iblk1 V c 1 t) := by unfold words1 amax1; rw [← et]
    have e3 : scOf (amax1 V c) = scOf (k1_pay9 (iblk1 V c 0 t)) := by unfold amax1; rw [← et]
    rw [e1, e2, e3]
    iintro ⟨⟨⟨Ha, Hb, Hc, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) _ _ _ _ _ _ _ _ _ _ _ _ _ _ _ _ _ _ ((hcond1_0 t).mpr (by omega)) ((hcond1_1 t).mpr (by omega)) (fun h => by have := (hcond1_2 t).mp h; omega) (fun h => by have := (hcond1_3 t).mp h; omega) ((hcond1_4 t).mpr (by omega)) (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [Ha Hb Hc HS0 HS1 Hg]
    · isplitl [Ha Hb Hc HS0 HS1]
      · isplitl [Ha]; · iexact Ha
        isplitl [Hb]; · iexact Hb
        isplitl [Hc]; · iexact Hc
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    iexact H6
  · by_cases h1 : t.val = 16
    · rw [leaves_live1 V c 4 t (by rw [idle1_4_iff]; exact decide_eq_false (by omega)), leaves_flush1 V c 5 t (by rw [flush1_5_iff]; exact decide_eq_true (by omega)),
        leaves_flush1 V c 6 t (by rw [flush1_6_iff]; exact decide_eq_true (by omega)), after1_4, after1_5, after1_6]
      rw [PhiS1_castSucc V c t, PhiS1_pos V c _ _ h0]
      simp only [before1_5_last V c t h1, before1_6_last V c t h1]
      have e1 : codes1 V c t.val = codes1 V c (t.val - 1) := by
        unfold codes1; rw [show tileAt t.val = tileAt (t.val - 1) from Fin.ext (by show min t.val 15 = min (t.val - 1) 15; omega)]
      rw [e1]; unfold prod1
      iintro ⟨⟨⟨Ha, Hb, Hc, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ _ _ (fun h => by have := (hcond1_0 t).mp h; omega) (fun h => by have := (hcond1_1 t).mp h; omega) (fun h => by have := (hcond1_2 t).mp h; omega) ((hcond1_3 t).mpr (by omega)) (fun h => by have := (hcond1_4 t).mp h; omega) (iblk1 V c 0 t) (iblk1 V c 1 t) (iblk1 V c 2 t) (iblk1 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Ha Hb Hc HS0 HS1 Hg]
      · isplitl [Ha Hb Hc HS0 HS1]
        · isplitl [Ha]; · iexact Ha
          isplitl [Hb]; · iexact Hb
          isplitl [Hc]; · iexact Hc
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves_live1 V c 4 t (by rw [idle1_4_iff]; exact decide_eq_false (by omega)), leaves_live1 V c 5 t (by rw [idle1_5_iff]; exact decide_eq_false (by omega)),
        Dat.leavesExact_idle (dat1 V c) 6 t (by rw [idle1_6_iff]; exact decide_eq_true (by omega)) (by rw [flush1_6_iff]; exact decide_eq_false (by omega)), after1_4, after1_5]
      rw [PhiS1_castSucc V c t, PhiS1_pos V c _ _ h0]
      have e1 : codes1 V c t.val = qTile (words1 V c (ix1 0)) (iblk1 V c 2 t) := by
        unfold codes1; rw [words1_0, tileAt_val t (by omega)]
      rw [e1]; unfold prod1
      iintro ⟨⟨⟨Ha, Hb, Hc, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ _ _ (fun h => by have := (hcond1_0 t).mp h; omega) (fun h => by have := (hcond1_1 t).mp h; omega) ((hcond1_2 t).mpr (by omega)) (fun h => by have := (hcond1_3 t).mp h; omega) ((hcond1_4 t).mpr (by omega)) (iblk1 V c 0 t) (iblk1 V c 1 t) (iblk1 V c 2 t) (iblk1 V c 3 t) _ _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [Ha Hb Hc HS0 HS1 Hg]
      · isplitl [Ha Hb Hc HS0 HS1]
        · isplitl [Ha]; · iexact Ha
          isplitl [Hb]; · iexact Hb
          isplitl [Hc]; · iexact Hc
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-- What the launch hands the region is what it keeps before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point what it keeps gives that back, the scratch's contents forgotten. -/
theorem hout1 (c : Dev nD) : (dat1 V c).Φ (Fin.last cfg1.N) ⊢ Pipeline.ΦA spec1 c := by
  have hz : (Fin.last cfg1.N).val ≠ 0 := by rw [Fin.val_last]; have : cfg1.N = 17 := N_1; omega
  rw [show (dat1 V c).Φ (Fin.last cfg1.N) = PhiS1 V c (Fin.last cfg1.N).val (Nat.le_of_lt_succ (Fin.last cfg1.N).isLt) from rfl, PhiS1_pos V c _ _ hz, PhiA1_eq]
  iintro ⟨⟨Ha, Hb, Hc, HS0, HS1⟩, Hg⟩
  isplitl [Ha Hb Hc HS0 HS1]
  · isplitl [Ha]; · iexact Ha
    isplitl [Hb]; · iexact Hb
    isplitl [Hc]; · iexact Hc
    isplitl [HS0]; · iexists _; iexact HS0
    iexists _; iexact HS1
  iexact Hg

end Region

end Cert.KernelIdeal.Gen

end
-- ==== Proof.KernelIdeal.Run.lean ====
/- The whole program: its two calls among the host operations, from the launch to the return. -/
module

public import proofs.«01_k».proof.Proof.KernelIdeal.R0
public import proofs.«01_k».proof.Proof.KernelIdeal.R1

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters it ends, nothing faulting, with the results at what the second call's
    write-backs leave, the arguments as launched and every counter at zero. -/
theorem run : θ_run defs (onTc (τ := τ) (main (F := F))) ⟨m, fun _ => 0, ρ⟩ (fun r => (∀ c : Dev nD,
      r.2.mem ((c.tc : Thread nD τ).loc main_v3_0) = (dat1 (V3 m ρ) c).arrAt 4 cfg1.N
      ∧ r.2.mem ((c.tc : Thread nD τ).loc main_v3_1) = (dat1 (V3 m ρ) c).arrAt 5 cfg1.N
      ∧ r.2.mem ((c.tc : Thread nD τ).loc main_v3_2) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v3_0 (by decide))).trans (W4_arr m ρ c 4),
       (h c _ (mem_uc main_v3_1 (by decide))).trans (W4_arr m ρ c 5),
       (h c _ (mem_uc main_v3_2 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-- The arguments end as launched, every counter at zero: `run` without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2, h.2⟩) (run m ρ)

end Cert.KernelIdeal.Gen

end
-- ==== Proof.Value.Scale.lean ====
/- The kernel's search for the exponent of the scale, over the extended reals: the scale and its reciprocal that it
   finds are the ones picked from the list of all powers of two. -/
module

public import proofs.«01_k».proof.Proof.KernelIdeal.QTile
public import proofs.«01_k».proof.Proof.Gen.ReferenceIdeal.Skeleton
public import Idealize.ShloMosaic.Lib.Pointwise

@[expose] public section

set_option maxRecDepth 16384

noncomputable section

namespace Cert.KernelIdeal.Gen

open Idealize.ShloMosaic Idealize.ShloMosaic.TcCoe

/-! ## The powers of two, by exponent field -/

/-- The number whose bits are the exponent field `n` alone: `2 ^ (n - 127)`, and infinity at 255. -/
def powF (n : ℕ) : EReal := if n = 255 then ⊤ else (((2 : ℝ) ^ ((n : ℤ) - 127) : ℝ) : EReal)

theorem field_bits : ∀ n : Fin 256, (Scalar.shli (BitVec.ofNat 32 n.val) 23#32).extractLsb' (8 + 23) 1 = 0#1
    ∧ ((Scalar.shli (BitVec.ofNat 32 n.val) 23#32).extractLsb' 23 8).toNat = n.val ∧ ((Scalar.shli (BitVec.ofNat 32 n.val) 23#32).extractLsb' 0 23).toNat = 0 := by
  decide +kernel

theorem ofBits_field (n : ℕ) (h1 : 1 ≤ n) (h2 : n ≤ 255) : (Scalar.ofBits .f32 (Scalar.shli (BitVec.ofNat 32 n) 23#32) : Ideal .f32) = powF n := by
  show Ideal.ieee 8 23 _ = _
  obtain ⟨e1, e2, e3⟩ := field_bits ⟨n, by omega⟩
  dsimp only at e1 e2 e3
  generalize Scalar.shli (BitVec.ofNat 32 n) 23#32 = b at e1 e2 e3 ⊢
  unfold Ideal.ieee powF
  dsimp only
  rw [e1, e2, e3]
  by_cases hn : n = 255
  · rw [if_pos (by rw [hn]; rfl), if_pos rfl, if_pos hn]; rfl
  · rw [if_neg (by intro h; exact hn h), if_neg (by omega), if_neg hn]
    congr 1
    have e : ((n : ℤ) - 127) = 23 + ((n : ℤ) - (2 ^ (8 - 1) - 1) - (23 : ℕ)) := by push_cast; ring
    rw [e, zpow_add₀ (by norm_num)]
    norm_num

theorem powF_lt {m n : ℕ} (h : m < n) (hn : n ≤ 255) : powF m < powF n := by
  unfold powF
  rw [if_neg (by omega)]
  split
  · exact EReal.coe_lt_top _
  · exact EReal.coe_lt_coe_iff.mpr (zpow_lt_zpow_right₀ (by norm_num) (by omega))

theorem powF_le {m n : ℕ} (h : m ≤ n) (hn : n ≤ 255) : powF m ≤ powF n := by
  rcases h.lt_or_eq with h | rfl
  · exact (powF_lt h hn).le
  · exact le_rfl

/-! ## The search -/

theorem sel_oge {w : ℕ} (x y : EReal) (a b : BitVec w) : Scalar.select (Scalar.cmpf (F := Ideal) (φ := .f32) .oge x y) a b = if y ≤ x then a else b := by
  show Scalar.select (BitVec.ofBool (decide (y ≤ x))) a b = _
  by_cases h : y ≤ x <;> simp [h, Scalar.select]

/-- One step of the search, on a field held as a number. -/
theorem fieldStep_nat (x : EReal) (b n : ℕ) (h1 : 1 ≤ n + b) (h2 : n + b ≤ 255) :
    fieldStep (F := Ideal) x (BitVec.ofNat 32 b) (BitVec.ofNat 32 n) = BitVec.ofNat 32 (if powF (n + b) ≤ x then n + b else n) := by
  unfold fieldStep
  have e : Scalar.addi (BitVec.ofNat 32 n) (BitVec.ofNat 32 b) = BitVec.ofNat 32 (n + b) := BitVec.ofNat_add_ofNat ..
  rw [e, ofBits_field (n + b) h1 h2, sel_oge]
  split <;> rfl

/-- What is known after some steps: the field lies in `n` to `n + w - 1`. -/
def Within (x : EReal) (n w : ℕ) : Prop := n + w ≤ 256 ∧ (∀ g, 1 ≤ g → g ≤ n → powF g ≤ x) ∧ ∀ g, n + w ≤ g → g ≤ 255 → x < powF g

theorem within_step (x : EReal) (b n : ℕ) (hb : 1 ≤ b) (h : Within x n (b + b)) :
    ∃ n', fieldStep (F := Ideal) x (BitVec.ofNat 32 b) (BitVec.ofNat 32 n) = BitVec.ofNat 32 n' ∧ Within x n' b := by
  obtain ⟨h1, h2, h3⟩ := h
  refine ⟨_, fieldStep_nat x b n (by omega) (by omega), ?_⟩
  split
  · rename_i hx
    exact ⟨by omega, fun g hg hg' => (powF_le hg' (by omega)).trans hx, fun g hg hg' => h3 g (by omega) hg'⟩
  · rename_i hx
    exact ⟨by omega, h2, fun g hg hg' => (not_le.mp hx).trans_le (powF_le hg hg')⟩

/-- The eight steps find the field: the number of powers of two (from `2 ^ -126` on, infinity the last) that are at most `x`. -/
theorem field8 (x : EReal) : ∃ n, n ≤ 255 ∧ (∀ g, 1 ≤ g → g ≤ 255 → (powF g ≤ x ↔ g ≤ n))
    ∧ fieldStep (F := Ideal) x 1#32 (fieldStep (F := Ideal) x 2#32 (field6 (F := Ideal) x)) = BitVec.ofNat 32 n := by
  have h0 : Within x 0 (128 + 128) := ⟨by omega, fun g hg hg' => by omega, fun g hg hg' => by omega⟩
  obtain ⟨n1, e1, h1⟩ := within_step x 128 0 (by omega) h0
  obtain ⟨n2, e2, h2⟩ := within_step x 64 n1 (by omega) h1
  obtain ⟨n3, e3, h3⟩ := within_step x 32 n2 (by omega) h2
  obtain ⟨n4, e4, h4⟩ := within_step x 16 n3 (by omega) h3
  obtain ⟨n5, e5, h5⟩ := within_step x 8 n4 (by omega) h4
  obtain ⟨n6, e6, h6⟩ := within_step x 4 n5 (by omega) h5
  obtain ⟨n7, e7, h7⟩ := within_step x 2 n6 (by omega) h6
  obtain ⟨n8, e8, h8⟩ := within_step x 1 n7 (by omega) h7
  obtain ⟨ha, hb, hc⟩ := h8
  refine ⟨n8, by omega, fun g hg hg' => ⟨fun h => ?_, fun h => hb g hg h⟩, ?_⟩
  · by_contra hn
    exact absurd h (not_le.mpr (hc g (by omega) hg'))
  · rw [show field6 (F := Ideal) x = BitVec.ofNat 32 n6 from by
      unfold field6
      rw [← e6, ← e5, ← e4, ← e3, ← e2, ← e1], ← e8, ← e7]

/-- The exponent field of the scale, from the field found. -/
def scaleField (n : ℕ) : ℕ := if n = 0 ∨ n = 255 then 127 else min n 246 + 1

/-- The words of the scale and of its reciprocal, from the field found: checked for all 256 fields. -/
theorem scale_words : ∀ n : Fin 256,
    let v63 : BitVec 32 := BitVec.ofNat 32 n.val
    let v64 : BitVec 1 := Scalar.cmpi .eq v63 255#32
    let v65 : BitVec 32 := Scalar.minsi v63 246#32
    let v66 : BitVec 32 := Scalar.select v64 255#32 v65
    let v67 : BitVec 1 := Scalar.cmpi .eq v66 0#32
    let v68 : BitVec 1 := Scalar.cmpi .eq v66 255#32
    let v69 : BitVec 1 := Scalar.ori v67 v68
    let v70 : BitVec 32 := Scalar.subi v66 126#32
    let v71 : BitVec 32 := Scalar.select v69 0#32 v70
    Scalar.addi v71 127#32 = BitVec.ofNat 32 (scaleField n.val)
      ∧ Scalar.addi (Scalar.subi 0#32 v71) 127#32 = BitVec.ofNat 32 (254 - scaleField n.val) := by
  decide +kernel

/-- The field found for `x`. -/
def fieldOf (x : EReal) : ℕ := (field8 x).choose

theorem fieldOf_le (x : EReal) : fieldOf x ≤ 255 := (field8 x).choose_spec.1
theorem le_fieldOf (x : EReal) {g : ℕ} (h1 : 1 ≤ g) (h2 : g ≤ 255) : powF g ≤ x ↔ g ≤ fieldOf x := (field8 x).choose_spec.2.1 g h1 h2

theorem scaleField_range (x : EReal) : 2 ≤ scaleField (fieldOf x) ∧ scaleField (fieldOf x) ≤ 247 := by
  unfold scaleField; have := fieldOf_le x; split <;> omega

theorem scOf_eq (x : EReal) : scOf (F := Ideal) x = powF (scaleField (fieldOf x)) := by
  have e := (field8 x).choose_spec.2.2
  have hw := (scale_words ⟨fieldOf x, by have := fieldOf_le x; omega⟩).1
  rw [← ofBits_field _ (by have := scaleField_range x; omega) (by have := scaleField_range x; omega), ← hw]
  have e' : fieldStep (F := Ideal) x 1#32 (fieldStep (F := Ideal) x 2#32 (field6 (F := Ideal) x)) = BitVec.ofNat 32 (fieldOf x) := e
  rw [← e']
  rfl

theorem invOf_eq (x : EReal) : invOf (F := Ideal) x = powF (254 - scaleField (fieldOf x)) := by
  have e := (field8 x).choose_spec.2.2
  have hw := (scale_words ⟨fieldOf x, by have := fieldOf_le x; omega⟩).2
  rw [← ofBits_field _ (by have := scaleField_range x; omega) (by have := scaleField_range x; omega), ← hw]
  have e' : fieldStep (F := Ideal) x 1#32 (fieldStep (F := Ideal) x 2#32 (field6 (F := Ideal) x)) = BitVec.ofNat 32 (fieldOf x) := e
  rw [← e']
  rfl

/-- The factor is the reciprocal of the scale. -/
theorem invOf_div (x : EReal) : invOf (F := Ideal) x = Ideal.div 1 (scOf (F := Ideal) x) := by
  rw [invOf_eq, scOf_eq]
  obtain ⟨h1, h2⟩ := scaleField_range x
  generalize scaleField (fieldOf x) = k at h1 h2
  unfold powF
  rw [if_neg (by omega), if_neg (by omega), Ideal.div_coe (by positivity), one_mul]
  congr 1
  rw [one_div, ← zpow_neg]
  congr 1
  omega

end Cert.KernelIdeal.Gen

end
-- ==== Proof.Value.Pick.lean ====
/- The reference's scale: the smallest listed power of two above the largest product over 448. It is the scale that the
   kernel's search finds. -/
module

public import proofs.«01_k».proof.Proof.Value.Scale

@[expose] public section

set_option maxRecDepth 16384

noncomputable section

namespace Cert.KernelIdeal.Gen

open Idealize.ShloMosaic Idealize.ShloMosaic.TcCoe

/-! ## Reductions of a whole vector, by their bounds -/

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-- A maximum over every axis but those of size one is at most `b` exactly if every element is. -/
theorem reduce_max_le {s t : Shape} {axes : List (Fin s.rank)} [Subsingleton t.Idx] (src : FVec Ideal s .f32) (h : s.Reduces axes t) (hφ : FKind.Formats .f32)
    (hacc : (0xFF800000#32 : BitVec 32) = FKind.maximumf.neutral .f32 hφ) (j : t.Idx) (b : EReal) :
    multiReduction .maximumf axes t src 0xFF800000#32 h hφ hacc j ≤ b ↔ ∀ i, src i ≤ b := by
  rw [multiReduction_maximumf_eq_fold]
  show Finset.fold max (Ideal.ofBits .f32 0xFF800000#32) src _ ≤ b ↔ _
  rw [Finset.fold_max_le, ofBits_neg_inf]
  exact ⟨fun h' i => h'.2 i (Finset.mem_filter.mpr ⟨Finset.mem_univ _, Subsingleton.elim _ _⟩), fun h' => ⟨bot_le, fun i _ => h' i⟩⟩

/-- The same of a minimum. -/
theorem le_reduce_min {s t : Shape} {axes : List (Fin s.rank)} [Subsingleton t.Idx] (src : FVec Ideal s .f32) (h : s.Reduces axes t) (hφ : FKind.Formats .f32)
    (hacc : (0x7F800000#32 : BitVec 32) = FKind.minimumf.neutral .f32 hφ) (j : t.Idx) (b : EReal) :
    b ≤ multiReduction .minimumf axes t src 0x7F800000#32 h hφ hacc j ↔ ∀ i, b ≤ src i := by
  rw [multiReduction_minimumf_eq_fold]
  show b ≤ Finset.fold min (Ideal.ofBits .f32 0x7F800000#32) src _ ↔ _
  rw [Finset.le_fold_min, ofBits_inf]
  exact ⟨fun h' i => h'.2 i (Finset.mem_filter.mpr ⟨Finset.mem_univ _, Subsingleton.elim _ _⟩), fun h' => ⟨le_top, fun i _ => h' i⟩⟩

/-- A property of every element of a reshaped vector is one of every element of the vector. -/
theorem forall_shapeCast {s t : Shape} {α : Type} (x : s.Idx → α) (h : s.ShapeCasts t) (P : α → Prop) : (∀ j, P (shapeCast t x h j)) ↔ ∀ i, P (x i) :=
  ⟨fun h' i => by have := h' ((Shape.reshapeEquiv h).symm i); unfold shapeCast at this; rwa [Equiv.apply_symm_apply] at this, fun h' j => h' _⟩

instance : Subsingleton (Cert.KernelIdeal.S1).Idx := ⟨fun a b => by funext i; fin_cases i; exact Subsingleton.elim (α := Fin 1) _ _⟩
instance : Subsingleton (Cert.ReferenceIdeal.S1).Idx := ⟨fun a b => by funext i; fin_cases i; exact Subsingleton.elim (α := Fin 1) _ _⟩

/-! ## The reference's scale -/

end Cert.KernelIdeal.Gen

namespace Cert.ReferenceIdeal.Gen

open Idealize.ShloMosaic Idealize.ShloMosaic.TcCoe
open Cert.KernelIdeal.Gen (powF ofBits_field scOf fieldOf fieldOf_le le_fieldOf scOf_eq scaleField reduce_max_le le_reduce_min forall_shapeCast)

/-- The listed powers of two at index `i`. -/
def powsR : FVec Ideal Cert.ReferenceIdeal.S1x246 .f32 :=
  exp2 (sitofp .f32 (subi (iota .tc S1x246 32 [1] iota_S1x246_d1_w32) (broadcast S1x246 125#32)))

/-- The powers above `x`, the others replaced by the last. -/
def aboveR (x : Ideal .f32) : FVec Ideal Cert.ReferenceIdeal.S1x246 .f32 :=
  select (cmpf .olt (broadcast S1x246 x) powsR) powsR (broadcast S1x246 (Scalar.ofBits .f32 0x7B800000#32))

/-- The reference's scale, from the largest product over 448. -/
def scaleR (x : Ideal .f32) : Ideal .f32 :=
  Scalar.select (Scalar.ori (Scalar.cmpf .olt x (Scalar.ofBits .f32 0x00800000#32)) (Scalar.cmpf .oeq x (Scalar.ofBits .f32 0x7F800000#32)))
    (Scalar.ofBits .f32 0x3F800000#32)
    (extractAt ![0, 0, 0] (shapeCast S1x1x1 (multiReduction .minimumf [1, 2] S1 (shapeCast S1x1x246 (aboveR x) shapeCasts_S1x246_S1x1x246) 0x7F800000#32
      reduces_S1x1x246_S1 (.inl rfl) rfl) shapeCasts_S1_S1x1x1) inpos_S1x1x1_p0_0_0)

/-- The reference's largest product. -/
def amaxR (v0 v3 : Vec Ideal Cert.ReferenceIdeal.S4096x5120 .bf16) : Ideal .f32 :=
  extractAt ![0, 0, 0] (shapeCast S1x1x1 (multiReduction .maximumf [1, 2] S1 (shapeCast S1x4096x5120 (absf (k0_pay2 v0 v3)) shapeCasts_S4096x5120_S1x4096x5120)
    0xFF800000#32 reduces_S1x4096x5120_S1 (.inl rfl) rfl) shapeCasts_S1_S1x1x1) inpos_S1x1x1_p0_0_0

theorem k0_pay3_scaleR (v0 v3 : Vec Ideal Cert.ReferenceIdeal.S4096x5120 .bf16) :
    Cert.ReferenceIdeal.Gen.k0_pay3 v0 v3 = scaleR (Scalar.mulf (amaxR v0 v3) (Scalar.ofBits .f32 0x3B124925#32)) := rfl

theorem amaxR_le (v0 v3 : Vec Ideal Cert.ReferenceIdeal.S4096x5120 .bf16) (b : EReal) : amaxR v0 v3 ≤ b ↔ ∀ i, absf (k0_pay2 v0 v3) i ≤ b := by
  unfold amaxR extractAt shapeCast
  refine (reduce_max_le (t := S1) _ _ _ _ _ b).trans ?_
  exact forall_shapeCast (absf (k0_pay2 v0 v3)) shapeCasts_S4096x5120_S1x4096x5120 (fun v : EReal => v ≤ b)

theorem powsR_at (k : Fin 246) : powsR (ix2 0 k) = powF (k.val + 2) := by
  have e : subi (iota .tc S1x246 32 [1] iota_S1x246_d1_w32) (broadcast S1x246 125#32) (ix2 0 k) = BitVec.ofNat 32 k.val - 125#32 := by
    pointwise; rfl
  have e2 : ∀ k : Fin 246, (BitVec.ofNat 32 k.val - 125#32).toInt = (k.val : ℤ) - 125 := by decide +kernel
  show Ideal.exp2 ((((subi (iota .tc S1x246 32 [1] iota_S1x246_d1_w32) (broadcast S1x246 125#32) (ix2 0 k)).toInt : ℝ)) : EReal) = _
  rw [e, e2, Ideal.exp2_coe]
  unfold powF
  rw [if_neg (by omega)]
  congr 1
  show (2 : ℝ) ^ (((k.val : ℤ) - 125 : ℤ) : ℝ) = _
  rw [Real.rpow_intCast]
  congr 1; push_cast; ring

theorem ofBits_247 : (Scalar.ofBits .f32 0x7B800000#32 : Ideal .f32) = powF 247 := ofBits_field 247 (by decide) (by decide)
theorem ofBits_1 : (Scalar.ofBits .f32 0x00800000#32 : Ideal .f32) = powF 1 := ofBits_field 1 (by decide) (by decide)
theorem ofBits_127 : (Scalar.ofBits .f32 0x3F800000#32 : Ideal .f32) = powF 127 := ofBits_field 127 (by decide) (by decide)
theorem ofBits_255 : (Scalar.ofBits .f32 0x7F800000#32 : Ideal .f32) = powF 255 := ofBits_field 255 (by decide) (by decide)

theorem aboveR_at (x : EReal) (k : Fin 246) : aboveR x (ix2 0 k) = if x < powF (k.val + 2) then powF (k.val + 2) else powF 247 := by
  show Scalar.select (BitVec.ofBool (decide (x < powsR (ix2 0 k)))) (powsR (ix2 0 k)) (Scalar.ofBits .f32 0x7B800000#32 : Ideal .f32) = _
  rw [powsR_at, ofBits_247]
  by_cases h : x < powF (k.val + 2) <;> simp [h, Scalar.select]

/-- The two scales agree. -/
theorem scaleR_eq (x : EReal) : scaleR x = scOf (F := Ideal) x := by
  have hle := fieldOf_le x
  have hf := fun g h1 h2 => le_fieldOf x (g := g) h1 h2
  rw [scOf_eq]
  unfold scaleR
  rw [ofBits_1, ofBits_127, ofBits_255]
  have hc : Scalar.ori (Scalar.cmpf (F := Ideal) (φ := .f32) .olt x (powF 1)) (Scalar.cmpf (F := Ideal) (φ := .f32) .oeq x (powF 255))
      = BitVec.ofBool (decide (fieldOf x = 0 ∨ fieldOf x = 255)) := by
    have h1 : (x < powF 1) ↔ fieldOf x = 0 := by rw [← not_le, hf 1 le_rfl (by omega)]; omega
    have h2 : (x = powF 255) ↔ fieldOf x = 255 := by
      have h3 : powF 255 = ⊤ := if_pos rfl
      have h4 := hf 255 (by omega) le_rfl
      rw [h3, top_le_iff] at h4
      rw [h3, h4]; omega
    show BitVec.ofBool (decide (x < powF 1)) ||| BitVec.ofBool (decide (x = powF 255)) = _
    by_cases a : fieldOf x = 0 <;> by_cases b : fieldOf x = 255 <;> simp [h1, h2, a, b] <;> decide
  rw [hc]
  unfold scaleField
  by_cases h : fieldOf x = 0 ∨ fieldOf x = 255
  · rw [if_pos h]; simp only [h, decide_true]; rfl
  · rw [if_neg h]; simp only [h, decide_false]
    rw [show ∀ a b : EReal, Scalar.select (BitVec.ofBool false) a b = b from fun _ _ => rfl]
    unfold extractAt shapeCast
    refine eq_of_forall_le_iff fun b => ?_
    refine (le_reduce_min (t := S1) _ _ _ _ _ b).trans ?_
    refine (forall_shapeCast (aboveR x) shapeCasts_S1x246_S1x1x246 (fun v : EReal => b ≤ v)).trans ⟨fun h' => ?_, fun h' i => ?_⟩
    · have := h' (ix2 0 ⟨min (fieldOf x) 246 - 1, by omega⟩)
      rw [aboveR_at] at this
      rw [show min (fieldOf x) 246 - 1 + 2 = min (fieldOf x) 246 + 1 from by omega] at this
      split at this
      · exact this
      · rename_i hx
        rw [not_lt, hf _ (by omega) (by omega)] at hx
        rwa [show min (fieldOf x) 246 + 1 = 247 from by omega]
    · obtain ⟨k, rfl⟩ : ∃ k : Fin 246, i = ix2 0 k := ⟨i 1, by
        funext a; fin_cases a
        · exact Subsingleton.elim (α := Fin 1) _ _
        · rfl⟩
      rw [aboveR_at]
      have hk := k.isLt
      split
      · rename_i hx
        rw [← not_le, hf _ (by omega) (by omega)] at hx
        exact h'.trans (Cert.KernelIdeal.Gen.powF_le (by omega) (by omega))
      · exact h'.trans (Cert.KernelIdeal.Gen.powF_le (by omega) (by omega))

end Cert.ReferenceIdeal.Gen

end
-- ==== Proof.Value.Max.lean ====
/- Over the extended reals: the products, the running maxima of the first call by their bounds, and the codes. -/
module

public import proofs.«01_k».proof.Proof.Value.Pick
public import proofs.«01_k».proof.Proof.KernelIdeal.Amax

@[expose] public section

set_option maxRecDepth 16384

noncomputable section

namespace Cert.KernelIdeal.Gen

open Idealize.ShloMosaic Idealize.ShloMosaic.TcCoe

/-! ## The products -/

/-- The gated product of a pair of numbers. -/
def prod (g u : EReal) : EReal := g * Ideal.logistic g * u

/-- Its size. -/
def sizeP (g u : EReal) : EReal := max (prod g u) (-(prod g u))

theorem sizeP_nonneg (g u : EReal) : 0 ≤ sizeP g u := by
  unfold sizeP
  rcases le_total 0 (prod g u) with h | h
  · exact h.trans (le_max_left _ _)
  · exact (EReal.neg_nonneg.mpr h).trans (le_max_right _ _)

theorem ofBits_zero : (Scalar.ofBits .f32 0x00000000#32 : Ideal .f32) = 0 := Ideal.ofBits_zero_f32
theorem ofBits_one : (Scalar.ofBits .f32 0x3F800000#32 : Ideal .f32) = 1 := Ideal.ofBits_one_f32

theorem prod_kernel (g u : EReal) : g * Ideal.div 1 (1 + Ideal.exp (0 - g)) * u = prod g u := by
  rw [zero_sub]; rfl

theorem k0_pay4_at (g u : Vec Ideal S16x128 .bf16) (y : S16x128.Idx) : k0_pay4 g u y = prod (g y) (u y) := by
  rw [← prod_kernel]
  unfold k0_pay4
  rw [shapeCast_self, shapeCast_self]
  show g y * Ideal.div (Scalar.ofBits .f32 0x3F800000#32 : Ideal .f32) ((Scalar.ofBits .f32 0x3F800000#32 : Ideal .f32)
    + Ideal.exp ((Scalar.ofBits .f32 0x00000000#32 : Ideal .f32) - g y)) * u y = _
  rw [ofBits_zero, ofBits_one]

/-- The clipped code of a product at a factor. -/
def clipP (inv p : EReal) : EReal := min (Ideal.ofBits .f32 0x43E00000#32) (max (Ideal.ofBits .f32 0xC3E00000#32) (p * inv))

theorem qElt_eq (inv g u : EReal) : qElt (F := Ideal) inv g u = clipP inv (prod g u) := by
  rw [← prod_kernel]
  unfold qElt k1_pay5
  rw [shapeCast_self, shapeCast_self]
  show min (Ideal.ofBits .f32 0x43E00000#32) (max (Ideal.ofBits .f32 0xC3E00000#32) (g * Ideal.div (Scalar.ofBits .f32 0x3F800000#32 : Ideal .f32) ((Scalar.ofBits .f32 0x3F800000#32 : Ideal .f32)
    + Ideal.exp ((Scalar.ofBits .f32 0x00000000#32 : Ideal .f32) - g)) * u * inv)) = _
  rw [ofBits_zero, ofBits_one]
  rfl

/-! ## The running maxima -/

/-- Every element of the running maxima is at most `b` after a step exactly if it was before and the new sizes are. -/
theorem chunkV_le (v : FVec Ideal S8x128 .f32) (g u : Vec Ideal S16x128 .bf16) (b : EReal) :
    (∀ y, chunkV v g u y ≤ b) ↔ (∀ y, v y ≤ b) ∧ ∀ z, sizeP (g z) (u z) ≤ b := by
  have e : ∀ y, chunkV v g u y = max (max (v y) (sizeP (g (ix2 ⟨0 + (y 0).val, by have : (y 0).val < 8 := (y 0).isLt; omega⟩ ⟨0 + (y 1).val, by have : (y 1).val < 128 := (y 1).isLt; omega⟩))
      (u (ix2 ⟨0 + (y 0).val, by have : (y 0).val < 8 := (y 0).isLt; omega⟩ ⟨0 + (y 1).val, by have : (y 1).val < 128 := (y 1).isLt; omega⟩))))
      (sizeP (g (ix2 ⟨8 + (y 0).val, by have : (y 0).val < 8 := (y 0).isLt; omega⟩ ⟨0 + (y 1).val, by have : (y 1).val < 128 := (y 1).isLt; omega⟩))
      (u (ix2 ⟨8 + (y 0).val, by have : (y 0).val < 8 := (y 0).isLt; omega⟩ ⟨0 + (y 1).val, by have : (y 1).val < 128 := (y 1).isLt; omega⟩))) := by
    intro y
    unfold sizeP
    rw [← k0_pay4_at, ← k0_pay4_at]
    show max (max (v y) (max (k0_pay4 g u _) (-(k0_pay4 g u _)))) (max (k0_pay4 g u _) (-(k0_pay4 g u _))) = _
    congr 3
    funext a; fin_cases a <;> rfl
  refine ⟨fun h => ⟨fun y => ?_, fun z => ?_⟩, fun ⟨h1, h2⟩ y => ?_⟩
  · have := h y; rw [e] at this
    exact (le_max_left _ _).trans ((le_max_left _ _).trans this)
  · have h0 : (z 0).val < 16 := (z 0).isLt
    have h1 : (z 1).val < 128 := (z 1).isLt
    by_cases hz : (z 0).val < 8
    · have := h (ix2 ⟨(z 0).val, hz⟩ ⟨(z 1).val, h1⟩); rw [e] at this
      have := (le_max_right _ _).trans ((le_max_left _ _).trans this)
      convert this using 3 <;> (funext a; fin_cases a <;> exact Fin.ext (Nat.zero_add _).symm)
    · have := h (ix2 ⟨(z 0).val - 8, by omega⟩ ⟨(z 1).val, h1⟩); rw [e] at this
      have := (le_max_right _ _).trans this
      convert this using 3 <;> (funext a; fin_cases a)
      all_goals first | exact Fin.ext (Nat.zero_add _).symm | exact Fin.ext (show (z 0).val = 8 + ((z 0).val - 8) by omega)
  · rw [e]
    exact max_le (max_le (h1 y) (h2 _)) (h2 _)

theorem foldV_le (x : Vec Ideal S256x10240 .bf16) (k : Fin k0_t1_loop.trips) (v : FVec Ideal S8x128 .f32) (b : EReal) :
    ∀ n, (∀ y, foldV x k v n y ≤ b) ↔ (∀ y, v y ≤ b) ∧ ∀ i, i < n → ∀ z, sizeP (blockAt x k i z) (blockAt x k (i + 40) z) ≤ b
  | 0 => ⟨fun h => ⟨h, fun i hi => absurd hi (Nat.not_lt_zero _)⟩, fun h => h.1⟩
  | n + 1 => by
    rw [show foldV x k v (n + 1) = chunkV (foldV x k v n) (blockAt x k n) (blockAt x k (n + 40)) from rfl, chunkV_le, foldV_le x k v b n]
    refine ⟨fun h => ⟨h.1.1, fun i hi => ?_⟩, fun h => ⟨⟨h.1, fun i hi => h.2 i (by omega)⟩, h.2 n (by omega)⟩⟩
    rcases Nat.lt_succ_iff_lt_or_eq.mp hi with h' | rfl
    · exact h.1.2 i h'
    · exact h.2

theorem k0_trips : k0_t1_loop.trips = 16 := by decide

theorem tripsV_le (x : Vec Ideal S256x10240 .bf16) (v : FVec Ideal S8x128 .f32) (b : EReal) :
    ∀ n, n ≤ k0_t1_loop.trips → ((∀ y, tripsV x v n y ≤ b) ↔ (∀ y, v y ≤ b) ∧ ∀ k : Fin k0_t1_loop.trips, k.val < n → ∀ i, i < 40 → ∀ z, sizeP (blockAt x k i z) (blockAt x k (i + 40) z) ≤ b)
  | 0, _ => ⟨fun h => ⟨h, fun k hk => absurd hk (Nat.not_lt_zero _)⟩, fun h => h.1⟩
  | n + 1, hn => by
    rw [show tripsV x v (n + 1) = foldV x ⟨n, hn⟩ (tripsV x v n) 40 from dif_pos _, foldV_le, tripsV_le x v b n (by omega)]
    refine ⟨fun h => ⟨h.1.1, fun k hk => ?_⟩, fun h => ⟨⟨h.1, fun k hk => h.2 k (by omega)⟩, h.2 ⟨n, hn⟩ (Nat.lt_succ_self _)⟩⟩
    rcases Nat.lt_succ_iff_lt_or_eq.mp hk with h' | h'
    · exact h.1.2 k h'
    · obtain rfl : k = ⟨n, hn⟩ := Fin.ext h'
      exact h.2

/-- The 256 rows of a tile: all of its products enter the maxima. -/
theorem tile_le (x : Vec Ideal S256x10240 .bf16) (v : FVec Ideal S8x128 .f32) (b : EReal) :
    (∀ y, tripsV x v k0_t1_loop.trips y ≤ b) ↔ (∀ y, v y ≤ b) ∧ ∀ (r : Fin 256) (j : Fin 5120), sizeP (x (ix2 r ⟨j.val, by omega⟩)) (x (ix2 r ⟨j.val + 5120, by omega⟩)) ≤ b := by
  rw [tripsV_le x v b _ le_rfl]
  refine and_congr_right fun _ => ⟨fun h r j => ?_, fun h k _ i hi z => ?_⟩
  · have hr := r.isLt
    have hj := j.isLt
    have := h ⟨r.val / 16, by rw [k0_trips]; omega⟩ (Fin.isLt _) (j.val / 128) (by omega) (ix2 ⟨r.val % 16, by omega⟩ ⟨j.val % 128, by omega⟩)
    convert this using 1
    unfold blockAt
    congr 2 <;> (funext a; fin_cases a)
    · exact Fin.ext (show r.val = 16 * (r.val / 16) + r.val % 16 by omega)
    · exact Fin.ext (show j.val = (128 * (j.val / 128) + j.val % 128) % 10240 by omega)
    · exact Fin.ext (show r.val = 16 * (r.val / 16) + r.val % 16 by omega)
    · exact Fin.ext (show j.val + 5120 = (128 * (j.val / 128 + 40) + j.val % 128) % 10240 by omega)
  · have hk := k0_trip_lt k
    have h0 : (z 0).val < 16 := (z 0).isLt
    have h1 : (z 1).val < 128 := (z 1).isLt
    have := h ⟨16 * k.val + (z 0).val, by omega⟩ ⟨128 * i + (z 1).val, by omega⟩
    convert this using 1
    unfold blockAt
    congr 2 <;> (funext a; fin_cases a)
    · rfl
    · exact Fin.ext (show (128 * i + (z 1).val) % 10240 = 128 * i + (z 1).val by omega)
    · rfl
    · exact Fin.ext (show (128 * (i + 40) + (z 1).val) % 10240 = 128 * i + (z 1).val + 5120 by omega)

/-! ## The largest of the running maxima -/

def lanesMax (v : Vec Ideal S8x128 .f32) : Ideal .f32 :=
  extractAt ![0, 0, 0] (shapeCast S1x1x1 (multiReduction .maximumf [1, 2] S1 (shapeCast S1x8x128 (shapeCast S8x128 v shapeCasts_S8x128_S8x128) shapeCasts_S8x128_S1x8x128)
    0xFF800000#32 reduces_S1x8x128_S1 (.inl rfl) rfl) shapeCasts_S1_S1x1x1) inpos_S1x1x1_p0_0_0

theorem k1_pay9_eq (v : Vec Ideal S8x128 .f32) : k1_pay9 v = Scalar.mulf (lanesMax v) (Scalar.ofBits .f32 0x3B124925#32) := rfl

theorem lanesMax_le (v : Vec Ideal S8x128 .f32) (b : EReal) : lanesMax v ≤ b ↔ ∀ y, v y ≤ b := by
  unfold lanesMax
  rw [shapeCast_self]
  unfold extractAt shapeCast
  refine (reduce_max_le (t := S1) _ _ _ _ _ b).trans ?_
  exact forall_shapeCast v shapeCasts_S8x128_S1x8x128 (fun v : EReal => v ≤ b)

end Cert.KernelIdeal.Gen

namespace Cert.ReferenceIdeal.Gen

open Idealize.ShloMosaic Idealize.ShloMosaic.TcCoe
open Cert.KernelIdeal.Gen (prod sizeP clipP)

theorem k0_pay2_at (v0 v3 : Vec Ideal S4096x5120 .bf16) (i : S4096x5120.Idx) : k0_pay2 v0 v3 i = prod (v0 i) (v3 i) := by
  unfold k0_pay2
  rw [shapeCast_self, shapeCast_self]
  rfl

theorem amaxR_le' (v0 v3 : Vec Ideal S4096x5120 .bf16) (b : EReal) : amaxR v0 v3 ≤ b ↔ ∀ i, sizeP (v0 i) (v3 i) ≤ b := by
  rw [amaxR_le]
  refine forall_congr' fun i => ?_
  unfold sizeP
  rw [← k0_pay2_at]
  generalize k0_pay2 v0 v3 = p
  rfl

theorem clip_at (p : FVec Ideal S4096x5120 .f32) (s : Ideal .f32) (i : S4096x5120.Idx) :
    truncf .fp8e4m3 (minimumf (broadcast S4096x5120 (Scalar.ofBits .f32 0x43E00000#32)) (maximumf (broadcast S4096x5120 (Scalar.ofBits .f32 0xC3E00000#32))
      (mulf p (broadcast S4096x5120 (Scalar.divf (Scalar.ofBits .f32 0x3F800000#32) s))))) bitsLt_fp8e4m3_f32 i = clipP (Ideal.div 1 s) (p i) := by
  show min (Ideal.ofBits .f32 0x43E00000#32) (max (Ideal.ofBits .f32 0xC3E00000#32) (p i * Ideal.div (Scalar.ofBits .f32 0x3F800000#32 : Ideal .f32) s)) = _
  rw [Cert.KernelIdeal.Gen.ofBits_one]
  rfl

theorem k0_pay4_at (v0 v3 : Vec Ideal S4096x5120 .bf16) (i : S4096x5120.Idx) :
    k0_pay4 v0 v3 i = clipP (Ideal.div 1 (k0_pay3 v0 v3)) (prod (v0 i) (v3 i)) := by
  rw [← k0_pay2_at, ← clip_at (k0_pay2 v0 v3) (k0_pay3 v0 v3) i]
  unfold k0_pay4
  rfl

end Cert.ReferenceIdeal.Gen

end
-- ==== Proof.Value.Arrays.lean ====
/- Over the extended reals: what the two calls leave in the result arrays, as functions of the arrays they read. -/
module

public import proofs.«01_k».proof.Proof.Value.Max
public import proofs.«01_k».proof.Proof.KernelIdeal.R0
public import proofs.«01_k».proof.Proof.KernelIdeal.R1
public import Idealize.ShloMosaic.Lib.Pipeline.ValueKit

@[expose] public section

set_option maxRecDepth 16384

noncomputable section

namespace Cert.KernelIdeal.Gen

open Idealize.ShloMosaic Idealize.ShloMosaic.TcCoe
open Idealize.ShloMosaic.Pipeline (Dat)

variable (V : (c : Dev nD) → (b : Ref sig .tc) → Buf (Elt Ideal) ((c : Thread nD τ).loc b))

/-! ## The first call -/

theorem idx0 : ∀ t : Fin cfg0.N, win0_0.index t = ![t.val, 0] ∧ win0_1.index t = ![0, 0] :=
  (by decide +kernel : ∀ t : Fin grid0.N, win0_0.index t = ![t.val, 0] ∧ win0_1.index t = ![0, 0])

theorem idx1 : ∀ t : Fin cfg1.N, win1_0.index t = ![0, 0] ∧ win1_1.index t = ![0, 0] ∧ win1_2.index t = ![min t.val 15, 0] ∧ win1_3.index t = ![0, 0]
    ∧ win1_4.index t = ![t.val - 1, 0] ∧ win1_5.index t = ![min t.val 15, 0] ∧ win1_6.index t = ![0, 0] :=
  (by decide +kernel : ∀ t : Fin grid1.N, win1_0.index t = ![0, 0] ∧ win1_1.index t = ![0, 0] ∧ win1_2.index t = ![min t.val 15, 0] ∧ win1_3.index t = ![0, 0]
    ∧ win1_4.index t = ![t.val - 1, 0] ∧ win1_5.index t = ![min t.val 15, 0] ∧ win1_6.index t = ![0, 0])

/-- The tile of point `t` is rows `256 t` to `256 t + 255`. -/
theorem tile0 (c : Dev nD) (t : Fin cfg0.N) (r : Fin 256) (j : Fin 10240) (h : t.val * 256 + r.val < 4096) :
    (iblk0 V c 0 t : Vec Ideal S256x10240 .bf16) (ix2 r j) = (V c main_v0 : Vec Ideal S4096x10240 .bf16) (ix2 ⟨t.val * 256 + r.val, h⟩ j) := by
  blk_ext! [iblk0, idx0 t]

theorem tile1 (c : Dev nD) (t : Fin cfg1.N) (r : Fin 256) (j : Fin 10240) (h : min t.val 15 * 256 + r.val < 4096) :
    (iblk1 V c 2 t : Vec Ideal S256x10240 .bf16) (ix2 r j) = (V c main_v0 : Vec Ideal S4096x10240 .bf16) (ix2 ⟨min t.val 15 * 256 + r.val, h⟩ j) := by
  blk_ext! [iblk1, idx1 t]

theorem max1 (c : Dev nD) (t : Fin cfg1.N) : (iblk1 V c 0 t : Vec Ideal S8x128 .f32) = (V c main_v1 : Vec Ideal S8x128 .f32) := by
  blk_ext! [iblk1, idx1 t]

theorem ws1 (c : Dev nD) (t : Fin cfg1.N) : (iblk1 V c 1 t : Vec Ideal S1x1 .f32) = (V c main_v2 : Vec Ideal S1x1 .f32) := by
  blk_ext! [iblk1, idx1 t]

theorem w1 (c : Dev nD) (t : Fin cfg1.N) : (iblk1 V c 3 t : Vec Ideal S5120x4608 .fp8e4m3) = (V c main_arg1 : Vec Ideal S5120x4608 .fp8e4m3) := by
  blk_ext! [iblk1, idx1 t]

/-- The one block of the running maxima is written back after the last point. -/
theorem arr0_1 (c : Dev nD) : (dat0 V c).arrAt 1 cfg0.N = accV V c 15 (by decide) := by
  refine (dat0 V c).arrAt_eq_of_covers 1 _ (by decide +kernel) fun t hf y => ?_
  have ht : t.val = 15 := (by decide +kernel : ∀ t : Fin cfg0.N, (cfg0.win 1).flush t = true → t.val = 15) t hf
  have hc : ∀ (n : ℕ) (hn : n < cfg0.N), n = 15 → accV V c n hn = accV V c 15 (by decide) := by rintro _ _ rfl; rfl
  blk_simp
  rw [after0_1, hc _ _ ht]
  exact congrArg (accV V c 15 _) (by blk_ext! [idx0])

/-- The running maxima after the point `n` are at most `b` exactly if the sizes of the products of the tiles so far are. -/
theorem accV_le (c : Dev nD) (b : EReal) : ∀ (n : ℕ) (hn : n < cfg0.N), (∀ y, accV V c n hn y ≤ b) ↔ 0 ≤ b ∧ ∀ (r : Fin 4096) (j : Fin 5120), r.val < 256 * (n + 1) →
    sizeP ((V c main_v0 : Vec Ideal S4096x10240 .bf16) (ix2 r ⟨j.val, by omega⟩)) ((V c main_v0 : Vec Ideal S4096x10240 .bf16) (ix2 r ⟨j.val + 5120, by omega⟩)) ≤ b
  | 0, hn => by
    rw [show accV V c 0 hn = tripsV (iblk0 V c 0 ⟨0, hn⟩) k0_pay1 k0_t1_loop.trips from rfl, tile_le]
    refine and_congr ⟨fun h => (le_of_eq ofBits_zero.symm).trans (h (ix2 0 0)), fun h y => (le_of_eq ofBits_zero).trans h⟩ ⟨fun h r j hr => ?_, fun h r j => ?_⟩
    · have := h ⟨r.val, by omega⟩ j
      rw [tile0 V c _ _ _ (by show 0 * 256 + r.val < 4096; omega), tile0 V c _ _ _ (by show 0 * 256 + r.val < 4096; omega)] at this
      convert this using 4 <;> exact Fin.ext (show r.val = 0 * 256 + r.val by omega)
    · have := h ⟨r.val, by omega⟩ j (by show r.val < _; omega)
      rw [tile0 V c _ _ _ (by show 0 * 256 + r.val < 4096; omega), tile0 V c _ _ _ (by show 0 * 256 + r.val < 4096; omega)]
      convert this using 4 <;> exact Fin.ext (show 0 * 256 + r.val = r.val by omega)
  | n + 1, hn => by
    have hN : n + 1 < 16 := hn
    rw [show accV V c (n + 1) hn = tripsV (iblk0 V c 0 ⟨n + 1, hn⟩) (accV V c n (Nat.lt_of_succ_lt hn)) k0_t1_loop.trips from rfl, tile_le, accV_le c b n]
    refine ⟨fun ⟨⟨h0, h1⟩, h2⟩ => ⟨h0, fun r j hr => ?_⟩, fun ⟨h0, h1⟩ => ⟨⟨h0, fun r j hr => h1 r j (by omega)⟩, fun r j => ?_⟩⟩
    · by_cases hr' : r.val < 256 * (n + 1)
      · exact h1 r j hr'
      · have := h2 ⟨r.val - 256 * (n + 1), by omega⟩ j
        rw [tile0 V c _ _ _ (by show (n + 1) * 256 + (r.val - 256 * (n + 1)) < 4096; omega), tile0 V c _ _ _ (by show (n + 1) * 256 + (r.val - 256 * (n + 1)) < 4096; omega)] at this
        convert this using 4 <;> exact Fin.ext (show r.val = (n + 1) * 256 + (r.val - 256 * (n + 1)) by omega)
    · have hr := r.isLt
      have := h1 ⟨(n + 1) * 256 + r.val, by omega⟩ j (by show (n + 1) * 256 + r.val < _; omega)
      rw [tile0 V c _ _ _ (by show (n + 1) * 256 + r.val < 4096; omega), tile0 V c _ _ _ (by show (n + 1) * 256 + r.val < 4096; omega)]
      exact this

/-! ## The second call -/

/-- The codes of all products at a factor. -/
def codesOf (X : Vec Ideal S4096x10240 .bf16) (inv : EReal) : Vec Ideal S4096x5120 .fp8e4m3 := fun i =>
  clipP inv (prod (X (ix2 (i 0) ⟨(i 1).val, lt_of_lt_of_le (i 1).isLt (by decide)⟩)) (X (ix2 (i 0) ⟨(i 1).val + 5120, Nat.add_lt_add_right (i 1).isLt 5120⟩)))

/-- The scaled product of the codes and the weights. -/
def outOf (Q : Vec Ideal S4096x5120 .fp8e4m3) (W : Vec Ideal S5120x4608 .fp8e4m3) (s : EReal) : Vec Ideal S4096x4608 .bf16 := fun i =>
  ((∑ k : Fin 5120, (Q (ix2 (i 0) k) : EReal) * W (ix2 k (i 1))) : EReal) * s

/-- A tile's codes are the tile of the codes. -/
theorem codes1_at (c : Dev nD) (n : ℕ) (hn : n < 17) (r : Fin 256) (j : Fin 5120) (h : min n 15 * 256 + r.val < 4096) :
    codes1 V c n (ix2 r j) = codesOf (V c main_v0) (invOf (amax1 V c)) (ix2 ⟨min n 15 * 256 + r.val, h⟩ j) := by
  have e : min (tileAt n).val 15 = min n 15 := by unfold tileAt; show min (min n 15) 15 = _; omega
  unfold codes1 qTile
  rw [qElt_eq]
  unfold codesOf
  have h1 := tile1 V c (tileAt n) r ⟨j.val, by omega⟩ (by rw [e]; exact h)
  have h2 := tile1 V c (tileAt n) r ⟨j.val + 5120, by omega⟩ (by rw [e]; exact h)
  simp only [e] at h1 h2
  exact congrArg₂ (fun a b : EReal => clipP (invOf (amax1 V c)) (prod a b)) h1 h2

theorem arr1_5 (c : Dev nD) : (dat1 V c).arrAt 5 cfg1.N = codesOf (V c main_v0) (invOf (amax1 V c)) := by
  refine (dat1 V c).arrAt_eq_of_covers 5 _ (by decide +kernel) fun t hf y => ?_
  blk_simp
  rw [after1_5]
  have ht : t.val < 17 := t.isLt
  have hy : (y 0).val < 256 := (y 0).isLt
  have := codes1_at V c t.val ht (y 0) (y 1) (by show min t.val 15 * 256 + (y 0).val < 4096; omega)
  refine Eq.trans (congrArg (codes1 V c t.val) ?_) (this.trans (congrArg (codesOf (V c main_v0) (invOf (amax1 V c))) ?_))
  · blk_ext! []
  · blk_ext! [idx1 t]

theorem arr1_6 (c : Dev nD) : (dat1 V c).arrAt 6 cfg1.N = (fun _ => scOf (amax1 V c) : Vec Ideal S1x1 .f32) := by
  refine (dat1 V c).arrAt_eq_of_covers 6 _ (by decide +kernel) fun t hf y => ?_
  blk_simp
  rw [after1_6]

/-- A tile of the product, number by number. -/
theorem k1_pay7_at (q : Vec Ideal S256x5120 .fp8e4m3) (w : Vec Ideal S5120x4608 .fp8e4m3) (s : EReal) (r : Fin 256) (j : Fin 4608) :
    k1_pay7 q w s (ix2 r j) = ((∑ k : Fin 5120, (q (ix2 r k) : EReal) * w (ix2 k j)) : EReal) * s := by
  pointwise [k1_pay7]

theorem arr1_4 (c : Dev nD) : (dat1 V c).arrAt 4 cfg1.N = outOf (codesOf (V c main_v0) (invOf (amax1 V c))) (V c main_arg1)
    (scOf (amax1 V c) * (V c main_v2 : Vec Ideal S1x1 .f32) (ix2 0 0)) := by
  refine (dat1 V c).arrAt_eq_of_covers 4 _ (by decide +kernel) fun t hf y => ?_
  have hf' : t.val ≠ 0 := (by decide +kernel : ∀ t : Fin cfg1.N, (cfg1.win 4).flush t = true → t.val ≠ 0) t hf
  blk_simp
  rw [after1_4]
  have ht : t.val < 17 := t.isLt
  have hy : (y 0).val < 256 := (y 0).isLt
  unfold prod1
  rw [w1]
  have hw : words1 V c (ix1 1) = (scOf (amax1 V c) * (V c main_v2 : Vec Ideal S1x1 .f32) (ix2 0 0) : EReal) := by
    unfold words1 wordsOf
    rw [ws1]
    exact if_neg (by decide)
  rw [hw]
  have e := k1_pay7_at (codes1 V c (t.val - 1)) (V c main_arg1) (scOf (amax1 V c) * (V c main_v2 : Vec Ideal S1x1 .f32) (ix2 0 0)) (y 0) (y 1)
  have hm : min (t.val - 1) 15 = t.val - 1 := by omega
  refine Eq.trans (congrArg _ ?_) (e.trans ?_)
  · blk_ext! []
  · unfold outOf
    refine congrArg (fun a : EReal => a * (scOf (amax1 V c) * (V c main_v2 : Vec Ideal S1x1 .f32) (ix2 0 0))) (Finset.sum_congr rfl fun k _ => ?_)
    rw [codes1_at V c (t.val - 1) (by omega) (y 0) k (by show min (t.val - 1) 15 * 256 + (y 0).val < 4096; omega)]
    refine congrArg₂ (fun a b : EReal => a * b) (congrArg (codesOf (V c main_v0) (invOf (amax1 V c))) ?_) (congrArg (V c main_arg1) ?_)
    · blk_ext! [idx1 t, hm]
    · blk_ext! [idx1 t]

end Cert.KernelIdeal.Gen

end
-- ==== Proof.Value.Result.lean ====
/- The kernel's results, as what the reference's own expressions give on the two halves of its first argument. -/
module

public import proofs.«01_k».proof.Proof.Value.Arrays
public import proofs.«01_k».proof.Proof.KernelIdeal.Run

@[expose] public section

set_option maxRecDepth 16384

noncomputable section

namespace Cert.KernelIdeal.Gen

open Idealize.ShloMosaic Idealize.ShloMosaic.TcCoe
open Idealize.ShloMosaic.Pipeline (Dat)
open Cert.ReferenceIdeal.Gen (amaxR amaxR_le' scaleR scaleR_eq k0_pay3_scaleR)

/-- The left half of the columns. -/
def half0 (X : Vec Ideal S4096x10240 .bf16) : Vec Ideal S4096x5120 .bf16 := fun i =>
  X (ix2 (i 0) ⟨(i 1).val, lt_of_lt_of_le (i 1).isLt (by decide)⟩)

/-- The right half of the columns. -/
def half1 (X : Vec Ideal S4096x10240 .bf16) : Vec Ideal S4096x5120 .bf16 := fun i =>
  X (ix2 (i 0) ⟨(i 1).val + 5120, Nat.add_lt_add_right (i 1).isLt 5120⟩)

section
variable (V : (c : Dev nD) → (b : Ref sig .tc) → Buf (Elt Ideal) ((c : Thread nD τ).loc b))

/-- The largest of the running maxima is the reference's largest product. -/
theorem lanesMax_acc (c : Dev nD) : lanesMax (accV V c 15 (by decide)) = amaxR (half0 (V c main_v0)) (half1 (V c main_v0)) := by
  refine eq_of_forall_ge_iff fun b => ?_
  rw [lanesMax_le, accV_le, amaxR_le']
  refine ⟨fun ⟨_, h⟩ i => h (i 0) (i 1) (lt_of_lt_of_le (i 0).isLt (by decide)), fun h => ⟨(sizeP_nonneg _ _).trans (h (ix2 0 0)), fun r j _ => h (ix2 r j)⟩⟩

theorem amax1_eq (c : Dev nD) (U : (c : Dev nD) → (b : Ref sig .tc) → Buf (Elt Ideal) ((c : Thread nD τ).loc b))
    (h1 : V c main_v1 = (dat0 U c).arrAt 1 cfg0.N) :
    amax1 V c = Scalar.mulf (amaxR (half0 (U c main_v0)) (half1 (U c main_v0))) (Scalar.ofBits .f32 0x3B124925#32) := by
  unfold amax1
  rw [max1, h1, arr0_1, k1_pay9_eq, lanesMax_acc]
end

/-- The scale of the products of an array's halves. -/
def scaleX (X : Vec Ideal S4096x10240 .bf16) : EReal := Cert.ReferenceIdeal.Gen.k0_pay3 (half0 X) (half1 X)

/-- The codes of the products of an array's halves. -/
def codesX (X : Vec Ideal S4096x10240 .bf16) : Vec Ideal S4096x5120 .fp8e4m3 := codesOf X (Ideal.div 1 (scaleX X))

/-- The output from the codes, the weights and their scale. -/
def outX (X : Vec Ideal S4096x10240 .bf16) (W : Vec Ideal S5120x4608 .fp8e4m3) (s : Vec Ideal S1x1 .f32) : Vec Ideal S4096x4608 .bf16 :=
  outOf (codesX X) W (scaleX X * s (ix2 0 0))

variable (m : (ℓ : Loc nD τ sig) → Buf (Elt Ideal) ℓ) (ρ : Dev nD → PrngReg)

/-- The first argument as a matrix. -/
abbrev argX (c : Dev nD) : Vec Ideal S4096x10240 .bf16 := shapeCast S4096x10240 (m ((c : Thread nD τ).loc main_arg0)) shapeCasts_S1x4096x10240_S4096x10240
/-- The weights' scale as a matrix of one number. -/
abbrev argS (c : Dev nD) : Vec Ideal S1x1 .f32 := shapeCast S1x1 (m ((c : Thread nD τ).loc main_arg2)) shapeCasts_S_S1x1

theorem V1_main_v0 (c : Dev nD) : V1 m ρ c main_v0 = argX m c := by
  show StableHlo.after hostOps0 (W0 m ρ c) (Proc.devRef .tc main_v0) = _
  entry_read
  rfl

theorem V3_main_v0 (c : Dev nD) : V3 m ρ c main_v0 = argX m c :=
  ((W3_of m ρ c main_v0 (by decide)).trans (W2_of m ρ c main_v0 (by decide +kernel))).trans (V1_main_v0 m ρ c)

theorem V3_main_v1 (c : Dev nD) : V3 m ρ c main_v1 = (dat0 (V1 m ρ) c).arrAt 1 cfg0.N :=
  (W3_of m ρ c main_v1 (by decide)).trans (W2_arr m ρ c 1)

theorem V3_main_v2 (c : Dev nD) : V3 m ρ c main_v2 = argS m c := by
  show StableHlo.after hostOps1 (W2 m ρ c) (Proc.devRef .tc main_v2) = _
  entry_read
  rw [W2_args m ρ c main_arg2 (by decide)]
  rfl

theorem V3_main_arg1 (c : Dev nD) : V3 m ρ c main_arg1 = m ((c : Thread nD τ).loc main_arg1) := W3_args m ρ c main_arg1 (by decide)

theorem scOf_amax1 (c : Dev nD) : scOf (amax1 (V3 m ρ) c) = scaleX (argX m c) := by
  rw [amax1_eq (V3 m ρ) c (V1 m ρ) (V3_main_v1 m ρ c), ← scaleR_eq, V1_main_v0]
  exact (k0_pay3_scaleR _ _).symm

theorem final6 (c : Dev nD) : (dat1 (V3 m ρ) c).arrAt 6 cfg1.N = (fun _ => scaleX (argX m c) : Vec Ideal S1x1 .f32) := by
  rw [arr1_6, scOf_amax1]

theorem final5 (c : Dev nD) : (dat1 (V3 m ρ) c).arrAt 5 cfg1.N = codesX (argX m c) := by
  rw [arr1_5, invOf_div, scOf_amax1, V3_main_v0]; rfl

theorem final4 (c : Dev nD) : (dat1 (V3 m ρ) c).arrAt 4 cfg1.N = outX (argX m c) (m ((c : Thread nD τ).loc main_arg1)) (argS m c) := by
  rw [arr1_4, invOf_div, scOf_amax1, V3_main_v0, V3_main_v2, V3_main_arg1]; rfl

end Cert.KernelIdeal.Gen

end
-- ==== Proof.Value.Reference.lean ====
/- The reference's results, as its own expressions on the two halves of its first argument. -/
module

public import proofs.«01_k».proof.Proof.Value.Result
public import proofs.«01_k».proof.Proof.Gen.ReferenceIdeal.Value
public import Idealize.ShloMosaic.Lib.Pipeline.ValueKit

@[expose] public section

set_option maxRecDepth 16384

noncomputable section

namespace Cert.ReferenceIdeal.Gen

open Idealize.ShloMosaic Idealize.ShloMosaic.TcCoe
open Idealize.ShloMosaic.Pipeline (Dat)
open Cert.KernelIdeal.Gen (half0 half1 codesOf outOf scaleX codesX outX)

variable (m : (ℓ : Loc nD τ sig) → Buf (Elt Ideal) ℓ)

theorem idxR : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0])

theorem x0_eq (c : Dev nD) (t : Fin cfg0.N) : (iblk m c 0 t : Vec Ideal S4096x10240 .bf16) = (V m c main_v0 : Vec Ideal S4096x10240 .bf16) := by
  blk_ext! [iblk, idxR t]

theorem x1_eq (c : Dev nD) (t : Fin cfg0.N) : (iblk m c 1 t : Vec Ideal S5120x4608 .fp8e4m3) = (V m c main_arg1 : Vec Ideal S5120x4608 .fp8e4m3) := by
  blk_ext! [iblk, idxR t]

theorem x2_eq (c : Dev nD) (t : Fin cfg0.N) : (iblk m c 2 t : Vec Ideal S1x1 .f32) = (V m c main_v1 : Vec Ideal S1x1 .f32) := by
  blk_ext! [iblk, idxR t]

/-- A load of the left columns is the left half. -/
theorem ld_half0 (X : Vec Ideal S4096x10240 .bf16) :
    View.ld X (Rect.unit ![0, 0] ![4096, 5120] inb_S4096x10240_S4096x5120_0_0) = half0 X := by
  funext i
  refine congrArg X (funext fun a => Fin.ext ?_)
  fin_cases a
  · show 0 + 1 * (i 0).val = (i 0).val; omega
  · show 0 + 1 * (i 1).val = (i 1).val; omega

/-- A load of the right columns is the right half. -/
theorem ld_half1 (X : Vec Ideal S4096x10240 .bf16) :
    View.ld X (Rect.unit ![0, 5120] ![4096, 5120] inb_S4096x10240_S4096x5120_0_5120) = half1 X := by
  funext i
  refine congrArg X (funext fun a => Fin.ext ?_)
  fin_cases a
  · show 0 + 1 * (i 0).val = (i 0).val; omega
  · show 5120 + 1 * (i 1).val = (i 1).val + 5120; omega

theorem rd0 (h : (Memref.whole cc0_stg0_0 : Memref sig .tc .vmem S4096x10240 .bf16).IsWhole) (f : Vec Ideal S4096x10240 .bf16) :
    View.read (Elt Ideal) (View.whole cc0_stg0_0) (h.unread f) = f := h.read_unread f

theorem rd1 (h : (Memref.whole cc0_stg1_0 : Memref sig .tc .vmem S5120x4608 .fp8e4m3).IsWhole) (f : Vec Ideal S5120x4608 .fp8e4m3) :
    View.read (Elt Ideal) (View.whole cc0_stg1_0) (h.unread f) = f := h.read_unread f

theorem rd2 (h : (Memref.whole cc0_stg2_0 : Memref sig .tc .smem S1x1 .f32).IsWhole) (f : Vec Ideal S1x1 .f32) :
    View.read (Elt Ideal) (View.whole cc0_stg2_0) (h.unread f) = f := h.read_unread f

/-- The codes, number by number. -/
theorem codes_half (X : Vec Ideal S4096x10240 .bf16) : k0_pay4 (half0 X) (half1 X) = codesX X := by
  funext i
  rw [k0_pay4_at]
  rfl

/-- The reference's product, number by number. -/
theorem out_at (s : EReal) (Q : FVec Ideal S4096x5120 .fp8e4m3) (W : FVec Ideal S5120x4608 .fp8e4m3) (w : EReal) (r : Fin 4096) (j : Fin 4608) :
    (k0_pay1 (F := Ideal) s (matmul dot_S4096x5120_S5120x4608_S4096x4608_1_0_0_1_n_n none Q W (constant S4096x4608 .f32 0x00000000#32)) w : Vec Ideal S4096x4608 .bf16) (ix2 r j)
      = outOf Q W (s * w) (ix2 r j) := by
  pointwise [k0_pay1, outOf]

theorem out_half (X : Vec Ideal S4096x10240 .bf16) (W : Vec Ideal S5120x4608 .fp8e4m3) (w : EReal) :
    k0_pay1 (k0_pay3 (half0 X) (half1 X)) (k0_pay5 (half0 X) (half1 X) W) w = outOf (codesX X) W (scaleX X * w) := by
  unfold k0_pay5
  rw [codes_half]
  funext i
  obtain ⟨r, j, rfl⟩ : ∃ (r : Fin 4096) (j : Fin 4608), i = ix2 r j := ⟨i 0, i 1, by funext a; fin_cases a <;> rfl⟩
  exact out_at _ _ _ _ r j

theorem final5 (c : Dev nD) : (dats m 0 c).arrAt 5 cfg0.N = (fun _ => scaleX (V m c main_v0) : Vec Ideal S1x1 .f32) := by
  refine (dats m 0 c).arrAt_eq_of_after_last 5 t0_0 (by decide +kernel) _ fun j => ?_
  blk_simp
  rw [after0_5]
  unfold outsAt0
  dsimp only
  frame_out
  rw [rd0, ld_half0, ld_half1, x0_eq]
  rfl

theorem final4 (c : Dev nD) : (dats m 0 c).arrAt 4 cfg0.N = codesX (V m c main_v0) := by
  refine (dats m 0 c).arrAt_eq_of_after_last 4 t0_0 (by decide +kernel) _ fun j => ?_
  blk_simp
  rw [after0_4]
  unfold outsAt0
  dsimp only
  frame_out
  rw [rd0, ld_half0, ld_half1, x0_eq]
  rw [codes_half]

theorem final3 (c : Dev nD) : (dats m 0 c).arrAt 3 cfg0.N = outX (V m c main_v0) (V m c main_arg1) (V m c main_v1) := by
  refine (dats m 0 c).arrAt_eq_of_after_last 3 t0_0 (by decide +kernel) _ fun j => ?_
  blk_simp
  rw [after0_3]
  unfold outsAt0
  dsimp only
  frame_out
  rw [rd0, ld_half0, ld_half1, x0_eq, rd1, rd2, x1_eq, x2_eq, out_half]
  rfl

/-- The first argument as the call reads it. -/
theorem V_main_v0 (c : Dev nD) : V m c main_v0 = shapeCast S4096x10240 (m ((c : Thread nD τ).loc main_arg0)) shapeCasts_S1x4096x10240_S4096x10240 := by
  entry_read
  rfl

/-- The weights' scale as the call reads it. -/
theorem V_main_v1 (c : Dev nD) : V m c main_v1 = shapeCast S1x1 (m ((c : Thread nD τ).loc main_arg2)) shapeCasts_S_S1x1 := by
  entry_read
  rfl

end Cert.ReferenceIdeal.Gen

end
-- ==== Proof.lean ====
/- Proof/KernelIdeal/, the same text about the program read at the reals) run the two calls point by point. -/
module

public import proofs.«01_k».proof.Defs
public import proofs.«01_k».proof.Proof.Gen.Kernel
public import proofs.«01_k».proof.Proof.Kernel.Run
public import proofs.«01_k».proof.Proof.Gen.KernelIdeal
public import proofs.«01_k».proof.Proof.KernelIdeal.Run
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value.Result
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- From memories that agree on the arguments the program and the reference end with equal results: both end at the same
    expressions in the reference's own words. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Gen.outX (Cert.KernelIdeal.Gen.argX m c) (m ((c.tc : Thread Cert.KernelIdeal.nD Cert.KernelIdeal.τ).loc Cert.KernelIdeal.main_arg1)) (Cert.KernelIdeal.Gen.argS m c),
    fun c => Cert.KernelIdeal.Gen.codesX (Cert.KernelIdeal.Gen.argX m c), fun c => fun _ => Cert.KernelIdeal.Gen.scaleX (Cert.KernelIdeal.Gen.argX m c), ?_, ?_⟩
  · refine (θ_run _ _ _).mono (fun r h c => ?_) (Cert.KernelIdeal.Gen.run m g)
    obtain ⟨h0, h1, h2, ha⟩ := h.1 c
    exact ⟨h0.trans (Cert.KernelIdeal.Gen.final4 m g c), h1.trans (Cert.KernelIdeal.Gen.final5 m g c), h2.trans (Cert.KernelIdeal.Gen.final6 m g c), ha⟩
  · refine (θ_run _ _ _).mono (fun r h c => ?_) (Cert.ReferenceIdeal.Value.run_blocks m' g')
    obtain ⟨h0, h1, h2, ha⟩ := h c
    obtain ⟨e0, e1, e2⟩ := hargs c
    have x0 := Cert.ReferenceIdeal.Gen.V_main_v0 m' c
    have x1 := Cert.ReferenceIdeal.Gen.V_main_arg1 m' c
    have x2 := Cert.ReferenceIdeal.Gen.V_main_v1 m' c
    rw [e0] at x0
    rw [e1] at x1
    rw [e2] at x2
    refine ⟨h0.trans ((Cert.ReferenceIdeal.Gen.final3 m' c).trans ?_), h1.trans ((Cert.ReferenceIdeal.Gen.final4 m' c).trans ?_),
      h2.trans ((Cert.ReferenceIdeal.Gen.final5 m' c).trans ?_), ha⟩
    · rw [x0, x1, x2]
    · rw [x0]
    · rw [x0]
      rfl

/-- Every claim: the two programs and the reference leave their arguments as launched, the idealization rewrites
    nothing, and the results are equal over the extended reals. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ,
    trivial, algebraic⟩

end Cert.Proof

end
